-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive_v_scale [hPre_positive_v_scale : Cert.Pre_positive_v_scale.Facts] (m : (ℓ : Loc Cert.KernelIdeal.nD Cert.KernelIdeal.τ Cert.KernelIdeal.sig) → Buf (Elt Ideal) ℓ) : Prop :=
  ∀ c : Dev Cert.KernelIdeal.nD,
    (Cert.Pre_positive_v_scale.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive_v_scale [hPre_positive_v_scale : Cert.Pre_positive_v_scale.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_v_scale.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_positive_v_scale [hKernelIdeal : Cert.KernelIdeal.Facts] [hPre_positive_v_scale : Cert.Pre_positive_v_scale.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive_v_scale m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_positive_v_scale [hReferenceIdeal : Cert.ReferenceIdeal.Facts] [hPre_positive_v_scale : Cert.Pre_positive_v_scale.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive_v_scale m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "score_scale" .f32 0x3E38AA3B#32 (((Real.sqrt 64)⁻¹ * (Real.log 2)⁻¹ : ℝ) : EReal)

def algebraic_KernelIdeal_ReferenceIdeal_pre_positive_v_scale [hKernelIdeal : Cert.KernelIdeal.Facts] [hReferenceIdeal : Cert.ReferenceIdeal.Facts] [hPre_positive_v_scale : Cert.Pre_positive_v_scale.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive_v_scale m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_positive_v_scale : Cert.Pre_positive_v_scale.Facts),
    quiescent_Kernel (hKernel := hKernel)
    ∧ quiescent_KernelIdeal (hKernelIdeal := hKernelIdeal)
    ∧ quiescent_KernelIdeal_pre_positive_v_scale (hKernelIdeal := hKernelIdeal) (hPre_positive_v_scale := hPre_positive_v_scale)
    ∧ quiescent_ReferenceIdeal (hReferenceIdeal := hReferenceIdeal)
    ∧ quiescent_ReferenceIdeal_pre_positive_v_scale (hReferenceIdeal := hReferenceIdeal) (hPre_positive_v_scale := hPre_positive_v_scale)
    ∧ preserves_Kernel_KernelIdeal
    ∧ algebraic_KernelIdeal_ReferenceIdeal_pre_positive_v_scale (hKernelIdeal := hKernelIdeal) (hReferenceIdeal := hReferenceIdeal) (hPre_positive_v_scale := hPre_positive_v_scale)
-- ==== Pre_positive_v_scale.lean ====
abbrev S32768x2048 : Shape := ⟨2, ![32768, 2048]⟩
abbrev S256x32 : Shape := ⟨2, ![256, 32]⟩
abbrev S32768x512 : Shape := ⟨2, ![32768, 512]⟩
abbrev S256x8 : Shape := ⟨2, ![256, 8]⟩
abbrev S512x32768 : Shape := ⟨2, ![512, 32768]⟩
abbrev S512 : Shape := ⟨1, ![512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : FVec F S32768x2048 .fp8e4m3) (main_arg1 : FVec F S256x32 .f32) (main_arg2 : FVec F S32768x512 .fp8e4m3) (main_arg3 : FVec F S256x8 .f32) (main_arg4 : FVec F S512x32768 .fp8e4m3) (main_arg5 : FVec F S512 .f32) : IVec S_ 1 :=
  let main_cst : FVec F S_ .f32 := constant S_ .f32 0x00000000#32
  let main_v0 : FVec F S512 .f32 := broadcastInDim S512 ![] bcast_S_S512 main_cst
  let main_v1 : IVec S512 1 := cmpf .ogt main_arg5 main_v0
  let main_c : IVec S_ 1 := constantI S_ 1 1#1
  let main_v2 : IVec S_ 1 := (fun x v => Host.reduce IntOp.andi x v reducesTo_S512_S_d0 h_S_) main_v1 main_c
  main_v2
-- ==== Kernel.lean ====
abbrev S32768x2048 : Shape := ⟨2, ![32768, 2048]⟩
abbrev S256x32 : Shape := ⟨2, ![256, 32]⟩
abbrev S32768x512 : Shape := ⟨2, ![32768, 512]⟩
abbrev S256x8 : Shape := ⟨2, ![256, 8]⟩
abbrev S512x32768 : Shape := ⟨2, ![512, 32768]⟩
abbrev S512 : Shape := ⟨1, ![512]⟩
abbrev S8x256 : Shape := ⟨2, ![8, 256]⟩
abbrev S8x256x1 : Shape := ⟨3, ![8, 256, 1]⟩
abbrev S8x256x128 : Shape := ⟨3, ![8, 256, 128]⟩
abbrev S8x1x64 : Shape := ⟨3, ![8, 1, 64]⟩
abbrev S1x8x1x1x1x64 : Shape := ⟨6, ![1, 8, 1, 1, 1, 64]⟩
abbrev S1x8x1x1x4x64 : Shape := ⟨6, ![1, 8, 1, 1, 4, 64]⟩
abbrev S8x1x256 : Shape := ⟨3, ![8, 1, 256]⟩
abbrev S8192 : Shape := ⟨1, ![8192]⟩
abbrev S1x256x128 : Shape := ⟨3, ![1, 256, 128]⟩
abbrev S256x128 : Shape := ⟨2, ![256, 128]⟩
abbrev S32768x128 : Shape := ⟨2, ![32768, 128]⟩
abbrev S64x32768 : Shape := ⟨2, ![64, 32768]⟩
abbrev S1x1x256 : Shape := ⟨3, ![1, 1, 256]⟩
abbrev S256x256 : Shape := ⟨2, ![256, 256]⟩
abbrev S32768x256 : Shape := ⟨2, ![32768, 256]⟩
abbrev S1x256 : Shape := ⟨2, ![1, 256]⟩
abbrev S64x256 : Shape := ⟨2, ![64, 256]⟩
abbrev S1 : Shape := ⟨1, ![1]⟩
abbrev S32x8x256 : Shape := ⟨3, ![32, 8, 256]⟩
abbrev S128x256 : Shape := ⟨2, ![128, 256]⟩
abbrev S256 : Shape := ⟨1, ![256]⟩

abbrev nBuf : Space → Nat
  | .hbm => 15
  | .vmem => 17
  | .smem => 1
  | _ => 0

abbrev bufTy : (tb : Table) → Fin (tcTables nBuf tb) → BufTy
  | .hbm, ⟨0, _⟩ => ⟨S32768x2048, .fp8e4m3⟩
  | .hbm, ⟨1, _⟩ => ⟨S256x32, .f32⟩
  | .hbm, ⟨2, _⟩ => ⟨S32768x512, .fp8e4m3⟩
  | .hbm, ⟨3, _⟩ => ⟨S256x8, .f32⟩
  | .hbm, ⟨4, _⟩ => ⟨S512x32768, .fp8e4m3⟩
  | .hbm, ⟨5, _⟩ => ⟨S512, .f32⟩
  | .hbm, ⟨6, _⟩ => ⟨S8x256, .f32⟩
  | .hbm, ⟨7, _⟩ => ⟨S8x256x1, .f32⟩
  | .hbm, ⟨8, _⟩ => ⟨S8x256x128, .f32⟩
  | .hbm, ⟨9, _⟩ => ⟨S8x1x64, .f32⟩
  | .hbm, ⟨10, _⟩ => ⟨S1x8x1x1x1x64, .f32⟩
  | .hbm, ⟨11, _⟩ => ⟨S1x8x1x1x4x64, .f32⟩
  | .hbm, ⟨12, _⟩ => ⟨S8x1x256, .f32⟩
  | .hbm, ⟨13, _⟩ => ⟨S8192, .f32⟩
  | .hbm, ⟨14, _⟩ => ⟨S32768x2048, .bf16⟩
  | .local _ .vmem, ⟨0, _⟩ => ⟨S1x256x128, .f32⟩
  | .local _ .vmem, ⟨1, _⟩ => ⟨S1x256x128, .f32⟩
  | .local _ .vmem, ⟨2, _⟩ => ⟨S256x128, .fp8e4m3⟩
  | .local _ .vmem, ⟨3, _⟩ => ⟨S256x128, .fp8e4m3⟩
  | .local _ .vmem, ⟨4, _⟩ => ⟨S32768x128, .fp8e4m3⟩
  | .local _ .vmem, ⟨5, _⟩ => ⟨S32768x128, .fp8e4m3⟩
  | .local _ .vmem, ⟨6, _⟩ => ⟨S64x32768, .fp8e4m3⟩
  | .local _ .vmem, ⟨7, _⟩ => ⟨S64x32768, .fp8e4m3⟩
  | .local _ .vmem, ⟨8, _⟩ => ⟨S1x1x256, .f32⟩
  | .local _ .vmem, ⟨9, _⟩ => ⟨S1x1x256, .f32⟩
  | .local _ .vmem, ⟨10, _⟩ => ⟨S256x256, .bf16⟩
  | .local _ .vmem, ⟨11, _⟩ => ⟨S256x256, .bf16⟩
  | .local _ .vmem, ⟨12, _⟩ => ⟨S32768x256, .f32⟩
  | .local _ .vmem, ⟨13, _⟩ => ⟨S256x256, .f32⟩
  | .local _ .vmem, ⟨14, _⟩ => ⟨S1x256, .f32⟩
  | .local _ .vmem, ⟨15, _⟩ => ⟨S64x256, .f32⟩
  | .local _ .vmem, ⟨16, _⟩ => ⟨S256x256, .f32⟩
  | .local _ .smem, ⟨0, _⟩ => ⟨S8192, .f32⟩
  | _, _ => ⟨S32768x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4097], ![false]⟩

def k0_cond1 (i : grid0.Coords) : BitVec 1 :=
  let arg0 : BitVec 32 := BitVec.ofNat 32 (i 0).val
  let c0_i32_23 : BitVec 32 := 0#32
  let v57 : BitVec 1 := Scalar.cmpi .eq arg0 c0_i32_23
  let v58 : BitVec 32 := Scalar.extui v57
  let c0_i32_24 : BitVec 32 := 0#32
  let v59 : BitVec 1 := Scalar.cmpi .ne v58 c0_i32_24
  v59

@[reducible] def k0_t1_loop : Scf.Loop 32 :=
  let c0_i32_100 : BitVec 32 := 0#32
  let c128_i32 : BitVec 32 := 128#32
  let v204 : BitVec 32 := Scalar.addi c0_i32_100 c128_i32
  let c1_i32_101 : BitVec 32 := 1#32
  ⟨c0_i32_100, v204, c1_i32_101⟩
def k0_mult1 (k0_t1 : Fin k0_t1_loop.trips) : BitVec 32 :=
  let c0_i32_100 : BitVec 32 := 0#32
  let c1_i32_101 : BitVec 32 := 1#32
  let arg13 : BitVec 32 := Scf.iv c0_i32_100 c1_i32_101 k0_t1
  let c256_i32 : BitVec 32 := 256#32
  let v206 : BitVec 32 := Scalar.muli arg13 c256_i32
  v206
def k0_off1 (k0_t1 : Fin k0_t1_loop.trips) : Fin 2 → Nat :=
  let c0_i32_100 : BitVec 32 := 0#32
  let c1_i32_101 : BitVec 32 := 1#32
  let arg13 : BitVec 32 := Scf.iv c0_i32_100 c1_i32_101 k0_t1
  let c256_i32 : BitVec 32 := 256#32
  let v206 : BitVec 32 := Scalar.muli arg13 c256_i32
  let v207 : BitVec 32 := v206
  let v208 : Index := Scalar.indexCast v207
  let c0_104 : Index := 0#32
  ![v208.toNat, 0]
def k0_off2 (i : grid0.Coords) (c0_i32_52 : BitVec 32) : Fin 1 → Nat :=
  let arg0 : BitVec 32 := BitVec.ofNat 32 (i 0).val
  let c4095_i32 : BitVec 32 := 4095#32
  let v0 : BitVec 32 := Scalar.minsi arg0 c4095_i32
  let c512_i32_4 : BitVec 32 := 512#32
  let c0_i32_5 : BitVec 32 := 0#32
  let v18 : BitVec 1 := Scalar.cmpi .eq c512_i32_4 c0_i32_5
  let c1_i32_6 : BitVec 32 := 1#32
  let v19 : BitVec 32 := Scalar.select v18 c1_i32_6 c512_i32_4
  let v20 : BitVec 32 := Scalar.remsi v0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c4_i32 : BitVec 32 := 4#32
  let c0_i32_12 : BitVec 32 := 0#32
  let v34 : BitVec 1 := Scalar.cmpi .sgt c4_i32 c0_i32_12
  let v35 : BitVec 32 := Scalar.extui v34
  let c0_i32_13 : BitVec 32 := 0#32
  let v36 : BitVec 1 := Scalar.cmpi .slt c4_i32 c0_i32_13
  let v37 : BitVec 32 := Scalar.extui v36
  let v38 : BitVec 32 := Scalar.subi v35 v37
  let v39 : BitVec 1 := Scalar.cmpi .ne v33 v38
  let v40 : BitVec 32 := Scalar.remsi v27 c4_i32
  let c0_i32_14 : BitVec 32 := 0#32
  let v41 : BitVec 1 := Scalar.cmpi .ne v40 c0_i32_14
  let v42 : BitVec 1 := Scalar.andi v39 v41
  let v28 : BitVec 32 := Scalar.divsi v27 c4_i32
  let c1_i32_15 : BitVec 32 := 1#32
  let v43 : BitVec 32 := Scalar.subi v28 c1_i32_15
  let v44 : BitVec 32 := Scalar.select v42 v43 v28
  let c2_i32_51 : BitVec 32 := 2#32
  let v126 : BitVec 32 := Scalar.muli v44 c2_i32_51
  let v127 : BitVec 32 := Scalar.addi v126 c0_i32_52
  let c32_i32 : BitVec 32 := 32#32
  let v128 : BitVec 32 := Scalar.muli v127 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c4_i32_16 : BitVec 32 := 4#32
  let v45 : BitVec 32 := Scalar.muli v17 c4_i32_16
  let c4_i32_17 : BitVec 32 := 4#32
  let c0_i32_18 : BitVec 32 := 0#32
  let v46 : BitVec 1 := Scalar.cmpi .eq c4_i32_17 c0_i32_18
  let c1_i32_19 : BitVec 32 := 1#32
  let v47 : BitVec 32 := Scalar.select v46 c1_i32_19 c4_i32_17
  let v48 : BitVec 32 := Scalar.remsi v0 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let v56 : BitVec 32 := Scalar.addi v45 v55
  let v129 : BitVec 32 := Scalar.addi v128 v56
  let v130 : Index := Scalar.indexCast v129
  ![v130.toNat]
@[reducible] def k0_t2_loop : Scf.Loop 32 :=
  let c0_i32_74 : BitVec 32 := 0#32
  let c32_i32_75 : BitVec 32 := 32#32
  let v163 : BitVec 32 := Scalar.addi c0_i32_74 c32_i32_75
  let c1_i32_76 : BitVec 32 := 1#32
  ⟨c0_i32_74, v163, c1_i32_76⟩
def k0_mult2 (k0_t2 : Fin k0_t2_loop.trips) : BitVec 32 :=
  let c0_i32_74 : BitVec 32 := 0#32
  let c1_i32_76 : BitVec 32 := 1#32
  let arg13 : BitVec 32 := Scf.iv c0_i32_74 c1_i32_76 k0_t2
  let c1024_i32 : BitVec 32 := 1024#32
  let v200 : BitVec 32 := Scalar.muli arg13 c1024_i32
  let c0_i32_97 : BitVec 32 := 0#32
  let v201 : BitVec 32 := Scalar.addi v200 c0_i32_97
  v201
def k0_off3 (k0_t2 : Fin k0_t2_loop.trips) (c0_i32_97 : BitVec 32) : Fin 2 → Nat :=
  let c0_i32_74 : BitVec 32 := 0#32
  let c1_i32_76 : BitVec 32 := 1#32
  let arg13 : BitVec 32 := Scf.iv c0_i32_74 c1_i32_76 k0_t2
  let c1024_i32 : BitVec 32 := 1024#32
  let v200 : BitVec 32 := Scalar.muli arg13 c1024_i32
  let v201 : BitVec 32 := Scalar.addi v200 c0_i32_97
  let v202 : BitVec 32 := v201
  let v203 : Index := Scalar.indexCast v202
  let c0_98 : Index := 0#32
  ![v203.toNat, 0]
def k0_off4 (k0_t2 : Fin k0_t2_loop.trips) (c0_i32_97 : BitVec 32) : Fin 2 → Nat :=
  let c0_103 : Index := 0#32
  let c0_i32_74 : BitVec 32 := 0#32
  let c1_i32_76 : BitVec 32 := 1#32
  let arg13 : BitVec 32 := Scf.iv c0_i32_74 c1_i32_76 k0_t2
  let c1024_i32 : BitVec 32 := 1024#32
  let v200 : BitVec 32 := Scalar.muli arg13 c1024_i32
  let v201 : BitVec 32 := Scalar.addi v200 c0_i32_97
  let v202 : BitVec 32 := v201
  let v215 : Index := Scalar.indexCast v202
  ![0, v215.toNat]
def k0_off5 (k0_t2 : Fin k0_t2_loop.trips) (c0_i32_97 : BitVec 32) : Fin 2 → Nat :=
  let c0_i32_74 : BitVec 32 := 0#32
  let c1_i32_76 : BitVec 32 := 1#32
  let arg13 : BitVec 32 := Scf.iv c0_i32_74 c1_i32_76 k0_t2
  let c1024_i32 : BitVec 32 := 1024#32
  let v200 : BitVec 32 := Scalar.muli arg13 c1024_i32
  let v201 : BitVec 32 := Scalar.addi v200 c0_i32_97
  let v202 : BitVec 32 := v201
  let v222 : Index := Scalar.indexCast v202
  let c0_107 : Index := 0#32
  ![v222.toNat, 0]
def k0_off6 (k0_t2 : Fin k0_t2_loop.trips) (c0_i32_109 : BitVec 32) (c0_i32_110 : BitVec 32) : Fin 2 → Nat :=
  let c0_i32_74 : BitVec 32 := 0#32
  let c1_i32_76 : BitVec 32 := 1#32
  let arg13 : BitVec 32 := Scf.iv c0_i32_74 c1_i32_76 k0_t2
  let c8_i32 : BitVec 32 := 8#32
  let v225 : BitVec 32 := Scalar.muli arg13 c8_i32
  let v226 : BitVec 32 := Scalar.addi v225 c0_i32_109
  let v227 : BitVec 32 := Scalar.addi v226 c0_i32_110
  let v228 : Index := Scalar.indexCast v227
  let c0_111 : Index := 0#32
  ![v228.toNat, 0]
def k0_mult3 (k0_t2 : Fin k0_t2_loop.trips) : BitVec 32 :=
  let c0_i32_74 : BitVec 32 := 0#32
  let c1_i32_76 : BitVec 32 := 1#32
  let arg13 : BitVec 32 := Scf.iv c0_i32_74 c1_i32_76 k0_t2
  let c1024_i32_118 : BitVec 32 := 1024#32
  let v249 : BitVec 32 := Scalar.muli arg13 c1024_i32_118
  let c256_i32 : BitVec 32 := 256#32
  let v250 : BitVec 32 := Scalar.addi v249 c256_i32
  v250
def k0_mult4 (k0_t2 : Fin k0_t2_loop.trips) : BitVec 32 :=
  let c0_i32_74 : BitVec 32 := 0#32
  let c1_i32_76 : BitVec 32 := 1#32
  let arg13 : BitVec 32 := Scf.iv c0_i32_74 c1_i32_76 k0_t2
  let c1024_i32_140 : BitVec 32 := 1024#32
  let v298 : BitVec 32 := Scalar.muli arg13 c1024_i32_140
  let c512_i32_141 : BitVec 32 := 512#32
  let v299 : BitVec 32 := Scalar.addi v298 c512_i32_141
  v299
def k0_mult5 (k0_t2 : Fin k0_t2_loop.trips) : BitVec 32 :=
  let c0_i32_74 : BitVec 32 := 0#32
  let c1_i32_76 : BitVec 32 := 1#32
  let arg13 : BitVec 32 := Scf.iv c0_i32_74 c1_i32_76 k0_t2
  let c1024_i32_163 : BitVec 32 := 1024#32
  let v347 : BitVec 32 := Scalar.muli arg13 c1024_i32_163
  let c768_i32 : BitVec 32 := 768#32
  let v348 : BitVec 32 := Scalar.addi v347 c768_i32
  v348
def k0_mult6 (i : grid0.Coords) : BitVec 32 :=
  let arg0 : BitVec 32 := BitVec.ofNat 32 (i 0).val
  let c1_i32_81 : BitVec 32 := 1#32
  let v170 : BitVec 32 := Scalar.subi arg0 c1_i32_81
  let c0_i32_82 : BitVec 32 := 0#32
  let v171 : BitVec 32 := Scalar.maxsi v170 c0_i32_82
  let c4_i32_83 : BitVec 32 := 4#32
  let c0_i32_84 : BitVec 32 := 0#32
  let v172 : BitVec 1 := Scalar.cmpi .eq c4_i32_83 c0_i32_84
  let c1_i32_85 : BitVec 32 := 1#32
  let v173 : BitVec 32 := Scalar.select v172 c1_i32_85 c4_i32_83
  let v174 : BitVec 32 := Scalar.remsi v171 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c64_i32_94 : BitVec 32 := 64#32
  let v191 : BitVec 32 := Scalar.muli v181 c64_i32_94
  v191
def k0_off7 (i : grid0.Coords) : Fin 2 → Nat :=
  let arg0 : BitVec 32 := BitVec.ofNat 32 (i 0).val
  let c1_i32_81 : BitVec 32 := 1#32
  let v170 : BitVec 32 := Scalar.subi arg0 c1_i32_81
  let c0_i32_82 : BitVec 32 := 0#32
  let v171 : BitVec 32 := Scalar.maxsi v170 c0_i32_82
  let c4_i32_83 : BitVec 32 := 4#32
  let c0_i32_84 : BitVec 32 := 0#32
  let v172 : BitVec 1 := Scalar.cmpi .eq c4_i32_83 c0_i32_84
  let c1_i32_85 : BitVec 32 := 1#32
  let v173 : BitVec 32 := Scalar.select v172 c1_i32_85 c4_i32_83
  let v174 : BitVec 32 := Scalar.remsi v171 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c64_i32_94 : BitVec 32 := 64#32
  let v191 : BitVec 32 := Scalar.muli v181 c64_i32_94
  let v192 : BitVec 32 := v191
  let v193 : Index := Scalar.indexCast v192
  let c0_95 : Index := 0#32
  ![v193.toNat, 0]
def k0_cond2 (i : grid0.Coords) : BitVec 1 :=
  let arg0 : BitVec 32 := BitVec.ofNat 32 (i 0).val
  let c1_i32_81 : BitVec 32 := 1#32
  let v170 : BitVec 32 := Scalar.subi arg0 c1_i32_81
  let c0_i32_82 : BitVec 32 := 0#32
  let v171 : BitVec 32 := Scalar.maxsi v170 c0_i32_82
  let c4_i32_83 : BitVec 32 := 4#32
  let c0_i32_84 : BitVec 32 := 0#32
  let v172 : BitVec 1 := Scalar.cmpi .eq c4_i32_83 c0_i32_84
  let c1_i32_85 : BitVec 32 := 1#32
  let v173 : BitVec 32 := Scalar.select v172 c1_i32_85 c4_i32_83
  let v174 : BitVec 32 := Scalar.remsi v171 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c3_i32 : BitVec 32 := 3#32
  let v197 : BitVec 1 := Scalar.cmpi .eq v181 c3_i32
  let v198 : BitVec 32 := Scalar.extui v197
  let c0_i32_96 : BitVec 32 := 0#32
  let v199 : BitVec 1 := Scalar.cmpi .ne v198 c0_i32_96
  v199

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c4095_i32 : BitVec 32 := 4095#32
  let v0 : BitVec 32 := Scalar.minsi arg0 c4095_i32
  let c512_i32 : BitVec 32 := 512#32
  let v1 : BitVec 32 := Scalar.divsi v0 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c4095_i32 : BitVec 32 := 4095#32
  let v0 : BitVec 32 := Scalar.minsi arg0 c4095_i32
  let c512_i32 : BitVec 32 := 512#32
  let c0_i32 : BitVec 32 := 0#32
  let v1 : BitVec 1 := Scalar.cmpi .eq c512_i32 c0_i32
  let c1_i32 : BitVec 32 := 1#32
  let v2 : BitVec 32 := Scalar.select v1 c1_i32 c512_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32 : BitVec 32 := 4#32
  let v11 : BitVec 32 := Scalar.divsi v10 c4_i32
  let c0_i32_3 : BitVec 32 := 0#32
  let v12 : BitVec 1 := Scalar.cmpi .sgt v10 c0_i32_3
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c0_i32_5 : BitVec 32 := 0#32
  let v17 : BitVec 1 := Scalar.cmpi .sgt c4_i32 c0_i32_5
  let v18 : BitVec 32 := Scalar.extui v17
  let c0_i32_6 : BitVec 32 := 0#32
  let v19 : BitVec 1 := Scalar.cmpi .slt c4_i32 c0_i32_6
  let v20 : BitVec 32 := Scalar.extui v19
  let v21 : BitVec 32 := Scalar.subi v18 v20
  let v22 : BitVec 1 := Scalar.cmpi .ne v16 v21
  let v23 : BitVec 32 := Scalar.remsi v10 c4_i32
  let c0_i32_7 : BitVec 32 := 0#32
  let v24 : BitVec 1 := Scalar.cmpi .ne v23 c0_i32_7
  let v25 : BitVec 1 := Scalar.andi v22 v24
  let c1_i32_8 : BitVec 32 := 1#32
  let v26 : BitVec 32 := Scalar.subi v11 c1_i32_8
  let v27 : BitVec 32 := Scalar.select v25 v26 v11
  let c4095_i32_9 : BitVec 32 := 4095#32
  let v28 : BitVec 32 := Scalar.minsi arg0 c4095_i32_9
  let c512_i32_10 : BitVec 32 := 512#32
  let v29 : BitVec 32 := Scalar.divsi v28 c512_i32_10
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c0_i32_13 : BitVec 32 := 0#32
  let v35 : BitVec 1 := Scalar.cmpi .sgt c512_i32_10 c0_i32_13
  let v36 : BitVec 32 := Scalar.extui v35
  let c0_i32_14 : BitVec 32 := 0#32
  let v37 : BitVec 1 := Scalar.cmpi .slt c512_i32_10 c0_i32_14
  let v38 : BitVec 32 := Scalar.extui v37
  let v39 : BitVec 32 := Scalar.subi v36 v38
  let v40 : BitVec 1 := Scalar.cmpi .ne v34 v39
  let v41 : BitVec 32 := Scalar.remsi v28 c512_i32_10
  let c0_i32_15 : BitVec 32 := 0#32
  let v42 : BitVec 1 := Scalar.cmpi .ne v41 c0_i32_15
  let v43 : BitVec 1 := Scalar.andi v40 v42
  let c1_i32_16 : BitVec 32 := 1#32
  let v44 : BitVec 32 := Scalar.subi v29 c1_i32_16
  let v45 : BitVec 32 := Scalar.select v43 v44 v29
  let c4_i32_17 : BitVec 32 := 4#32
  let v46 : BitVec 32 := Scalar.muli v45 c4_i32_17
  let c4095_i32_18 : BitVec 32 := 4095#32
  let v47 : BitVec 32 := Scalar.minsi arg0 c4095_i32_18
  let c4_i32_19 : BitVec 32 := 4#32
  let c0_i32_20 : BitVec 32 := 0#32
  let v48 : BitVec 1 := Scalar.cmpi .eq c4_i32_19 c0_i32_20
  let c1_i32_21 : BitVec 32 := 1#32
  let v49 : BitVec 32 := Scalar.select v48 c1_i32_21 c4_i32_19
  let v50 : BitVec 32 := Scalar.remsi v47 v49
  let c0_i32_22 : BitVec 32 := 0#32
  let v51 : BitVec 1 := Scalar.cmpi .ne v50 c0_i32_22
  let c0_i32_23 : BitVec 32 := 0#32
  let v52 : BitVec 1 := Scalar.cmpi .slt v50 c0_i32_23
  let c0_i32_24 : BitVec 32 := 0#32
  let v53 : BitVec 1 := Scalar.cmpi .slt v49 c0_i32_24
  let v54 : BitVec 1 := Scalar.xori v52 v53
  let v55 : BitVec 1 := Scalar.andi v54 v51
  let v56 : BitVec 32 := Scalar.addi v50 v49
  let v57 : BitVec 32 := Scalar.select v55 v56 v50
  let v58 : BitVec 32 := Scalar.addi v46 v57
  let c2_i32 : BitVec 32 := 2#32
  let v59 : BitVec 32 := Scalar.divsi v58 c2_i32
  let c0_i32_25 : BitVec 32 := 0#32
  let v60 : BitVec 1 := Scalar.cmpi .sgt v58 c0_i32_25
  let v61 : BitVec 32 := Scalar.extui v60
  let c0_i32_26 : BitVec 32 := 0#32
  let v62 : BitVec 1 := Scalar.cmpi .slt v58 c0_i32_26
  let v63 : BitVec 32 := Scalar.extui v62
  let v64 : BitVec 32 := Scalar.subi v61 v63
  let c0_i32_27 : BitVec 32 := 0#32
  let v65 : BitVec 1 := Scalar.cmpi .sgt c2_i32 c0_i32_27
  let v66 : BitVec 32 := Scalar.extui v65
  let c0_i32_28 : BitVec 32 := 0#32
  let v67 : BitVec 1 := Scalar.cmpi .slt c2_i32 c0_i32_28
  let v68 : BitVec 32 := Scalar.extui v67
  let v69 : BitVec 32 := Scalar.subi v66 v68
  let v70 : BitVec 1 := Scalar.cmpi .ne v64 v69
  let v71 : BitVec 32 := Scalar.remsi v58 c2_i32
  let c0_i32_29 : BitVec 32 := 0#32
  let v72 : BitVec 1 := Scalar.cmpi .ne v71 c0_i32_29
  let v73 : BitVec 1 := Scalar.andi v70 v72
  let c1_i32_30 : BitVec 32 := 1#32
  let v74 : BitVec 32 := Scalar.subi v59 c1_i32_30
  let v75 : BitVec 32 := Scalar.select v73 v74 v59
  let c0_i32_31 : BitVec 32 := 0#32
  ![v27.toNat, v75.toNat]

def cc0_transform_3 (i : grid0.Coords) : Fin 2 → Nat :=
  let arg0 : BitVec 32 := BitVec.ofNat 32 (i 0).val
  let c4095_i32 : BitVec 32 := 4095#32
  let v0 : BitVec 32 := Scalar.minsi arg0 c4095_i32
  let c512_i32 : BitVec 32 := 512#32
  let v1 : BitVec 32 := Scalar.divsi v0 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.divsi v17 c2_i32
  let c0_i32_4 : BitVec 32 := 0#32
  let v19 : BitVec 1 := Scalar.cmpi .sgt v17 c0_i32_4
  let v20 : BitVec 32 := Scalar.extui v19
  let c0_i32_5 : BitVec 32 := 0#32
  let v21 : BitVec 1 := Scalar.cmpi .slt v17 c0_i32_5
  let v22 : BitVec 32 := Scalar.extui v21
  let v23 : BitVec 32 := Scalar.subi v20 v22
  let c0_i32_6 : BitVec 32 := 0#32
  let v24 : BitVec 1 := Scalar.cmpi .sgt c2_i32 c0_i32_6
  let v25 : BitVec 32 := Scalar.extui v24
  let c0_i32_7 : BitVec 32 := 0#32
  let v26 : BitVec 1 := Scalar.cmpi .slt c2_i32 c0_i32_7
  let v27 : BitVec 32 := Scalar.extui v26
  let v28 : BitVec 32 := Scalar.subi v25 v27
  let v29 : BitVec 1 := Scalar.cmpi .ne v23 v28
  let v30 : BitVec 32 := Scalar.remsi v17 c2_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c0_i32_10 : BitVec 32 := 0#32
  let c0_i32_11 : BitVec 32 := 0#32
  ![c0_i32_10.toNat, v34.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c512_i32 : BitVec 32 := 512#32
  let v2 : BitVec 32 := Scalar.divsi v1 c512_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c512_i32 c0_i32_2
  let v9 : BitVec 32 := Scalar.extui v8
  let c0_i32_3 : BitVec 32 := 0#32
  let v10 : BitVec 1 := Scalar.cmpi .slt c512_i32 c0_i32_3
  let v11 : BitVec 32 := Scalar.extui v10
  let v12 : BitVec 32 := Scalar.subi v9 v11
  let v13 : BitVec 1 := Scalar.cmpi .ne v7 v12
  let v14 : BitVec 32 := Scalar.remsi v1 c512_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c512_i32 : BitVec 32 := 512#32
  let v2 : BitVec 32 := Scalar.divsi v1 c512_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c512_i32 c0_i32_2
  let v9 : BitVec 32 := Scalar.extui v8
  let c0_i32_3 : BitVec 32 := 0#32
  let v10 : BitVec 1 := Scalar.cmpi .slt c512_i32 c0_i32_3
  let v11 : BitVec 32 := Scalar.extui v10
  let v12 : BitVec 32 := Scalar.subi v9 v11
  let v13 : BitVec 1 := Scalar.cmpi .ne v7 v12
  let v14 : BitVec 32 := Scalar.remsi v1 c512_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c512_i32 : BitVec 32 := 512#32
  let c0_i32_0 : BitVec 32 := 0#32
  let v2 : BitVec 1 := Scalar.cmpi .eq c512_i32 c0_i32_0
  let c1_i32_1 : BitVec 32 := 1#32
  let v3 : BitVec 32 := Scalar.select v2 c1_i32_1 c512_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c4_i32 : BitVec 32 := 4#32
  let v12 : BitVec 32 := Scalar.divsi v11 c4_i32
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c4_i32 c0_i32_7
  let v19 : BitVec 32 := Scalar.extui v18
  let c0_i32_8 : BitVec 32 := 0#32
  let v20 : BitVec 1 := Scalar.cmpi .slt c4_i32 c0_i32_8
  let v21 : BitVec 32 := Scalar.extui v20
  let v22 : BitVec 32 := Scalar.subi v19 v21
  let v23 : BitVec 1 := Scalar.cmpi .ne v17 v22
  let v24 : BitVec 32 := Scalar.remsi v11 c4_i32
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c1_i32_11 : BitVec 32 := 1#32
  let v29 : BitVec 32 := Scalar.subi arg0 c1_i32_11
  let c0_i32_12 : BitVec 32 := 0#32
  let v30 : BitVec 32 := Scalar.maxsi v29 c0_i32_12
  let c512_i32_13 : BitVec 32 := 512#32
  let v31 : BitVec 32 := Scalar.divsi v30 c512_i32_13
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let c1_i32_19 : BitVec 32 := 1#32
  let v46 : BitVec 32 := Scalar.subi v31 c1_i32_19
  let v47 : BitVec 32 := Scalar.select v45 v46 v31
  let c0_i32_20 : BitVec 32 := 0#32
  ![v28.toNat, v47.toNat]

abbrev stage0_0 : Fin 1 → Memref sig .tc .smem S8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32768x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x32768 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "score_scale" => some (((Real.sqrt 64)⁻¹ * (Real.log 2)⁻¹ : ℝ) : EReal)
  | _ => none
-- ==== ReferenceIdeal.lean ====
abbrev S32768x2048 : Shape := ⟨2, ![32768, 2048]⟩
abbrev S256x32 : Shape := ⟨2, ![256, 32]⟩
abbrev S32768x512 : Shape := ⟨2, ![32768, 512]⟩
abbrev S256x8 : Shape := ⟨2, ![256, 8]⟩
abbrev S512x32768 : Shape := ⟨2, ![512, 32768]⟩
abbrev S512 : Shape := ⟨1, ![512]⟩
abbrev S256x128x32 : Shape := ⟨3, ![256, 128, 32]⟩
abbrev S32768x32 : Shape := ⟨2, ![32768, 32]⟩
abbrev S32x32768 : Shape := ⟨2, ![32, 32768]⟩
abbrev S32x32768x1 : Shape := ⟨3, ![32, 32768, 1]⟩
abbrev S256x128x8 : Shape := ⟨3, ![256, 128, 8]⟩
abbrev S32768x8 : Shape := ⟨2, ![32768, 8]⟩
abbrev S8x32768 : Shape := ⟨2, ![8, 32768]⟩
abbrev S8x1x32768 : Shape := ⟨3, ![8, 1, 32768]⟩
abbrev S8x1x64 : Shape := ⟨3, ![8, 1, 64]⟩
abbrev S8x4x1x32768 : Shape := ⟨4, ![8, 4, 1, 32768]⟩
abbrev S32x1x32768 : Shape := ⟨3, ![32, 1, 32768]⟩
abbrev S8x4x1x64 : Shape := ⟨4, ![8, 4, 1, 64]⟩
abbrev S32x1x64 : Shape := ⟨3, ![32, 1, 64]⟩
abbrev S32768x32x64 : Shape := ⟨3, ![32768, 32, 64]⟩
abbrev S32x32768x64 : Shape := ⟨3, ![32, 32768, 64]⟩
abbrev S32768x8x64 : Shape := ⟨3, ![32768, 8, 64]⟩
abbrev S8x32768x64 : Shape := ⟨3, ![8, 32768, 64]⟩
abbrev S8x1x32768x64 : Shape := ⟨4, ![8, 1, 32768, 64]⟩
abbrev S8x4x32768x64 : Shape := ⟨4, ![8, 4, 32768, 64]⟩
abbrev S8x64x32768 : Shape := ⟨3, ![8, 64, 32768]⟩
abbrev S32x32768x32768 : Shape := ⟨3, ![32, 32768, 32768]⟩

abbrev nBuf : Space → Nat
  | .hbm => 20
  | .vmem => 7
  | .smem => 0
  | _ => 0

abbrev bufTy : (tb : Table) → Fin (tcTables nBuf tb) → BufTy
  | .hbm, ⟨0, _⟩ => ⟨S32768x2048, .fp8e4m3⟩
  | .hbm, ⟨1, _⟩ => ⟨S256x32, .f32⟩
  | .hbm, ⟨2, _⟩ => ⟨S32768x512, .fp8e4m3⟩
  | .hbm, ⟨3, _⟩ => ⟨S256x8, .f32⟩
  | .hbm, ⟨4, _⟩ => ⟨S512x32768, .fp8e4m3⟩
  | .hbm, ⟨5, _⟩ => ⟨S512, .f32⟩
  | .hbm, ⟨6, _⟩ => ⟨S256x128x32, .f32⟩
  | .hbm, ⟨7, _⟩ => ⟨S32768x32, .f32⟩
  | .hbm, ⟨8, _⟩ => ⟨S32x32768, .f32⟩
  | .hbm, ⟨9, _⟩ => ⟨S32x32768x1, .f32⟩
  | .hbm, ⟨10, _⟩ => ⟨S256x128x8, .f32⟩
  | .hbm, ⟨11, _⟩ => ⟨S32768x8, .f32⟩
  | .hbm, ⟨12, _⟩ => ⟨S8x32768, .f32⟩
  | .hbm, ⟨13, _⟩ => ⟨S8x1x32768, .f32⟩
  | .hbm, ⟨14, _⟩ => ⟨S8x1x64, .f32⟩
  | .hbm, ⟨15, _⟩ => ⟨S8x4x1x32768, .f32⟩
  | .hbm, ⟨16, _⟩ => ⟨S32x1x32768, .f32⟩
  | .hbm, ⟨17, _⟩ => ⟨S8x4x1x64, .f32⟩
  | .hbm, ⟨18, _⟩ => ⟨S32x1x64, .f32⟩
  | .hbm, ⟨19, _⟩ => ⟨S32768x2048, .bf16⟩
  | .local _ .vmem, ⟨0, _⟩ => ⟨S32768x2048, .fp8e4m3⟩
  | .local _ .vmem, ⟨1, _⟩ => ⟨S32768x512, .fp8e4m3⟩
  | .local _ .vmem, ⟨2, _⟩ => ⟨S512x32768, .fp8e4m3⟩
  | .local _ .vmem, ⟨3, _⟩ => ⟨S32x32768x1, .f32⟩
  | .local _ .vmem, ⟨4, _⟩ => ⟨S32x1x32768, .f32⟩
  | .local _ .vmem, ⟨5, _⟩ => ⟨S32x1x64, .f32⟩
  | .local _ .vmem, ⟨6, _⟩ => ⟨S32768x2048, .bf16⟩
  | _, _ => ⟨S32768x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32768x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x32768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x32768x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1x32768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Bits.Closed.lean ====
/- The grid point's words in closed form: where the finished head's rows go in the group's buffer, at which points the running maximum is
   reset, and at which points a group is written out. -/
module

public import proofs.«01_k».proof.Proof.Gen.Kernel
public import Idealize.ShloMosaic.Lib.Exec

@[expose] public section

noncomputable section

namespace Cert.Kernel.Hand

open Idealize.ShloMosaic Idealize.ShloMosaic.TcCoe Idealize.ShloMosaic.Tactic
open Cert.Kernel.Gen

/-- The grid point of a number below 4097. -/
def point (n : Fin 4097) : grid0.Coords := fun a => ⟨n.val, by
  have h : a = 0 := Subsingleton.elim _ _
  subst h; exact n.isLt⟩

/-- The row of the group's buffer that a grid point writes its head at, for every point, -/
theorem off7_at : ∀ n : Fin 4097, k0_off7 (point n) = ![64 * ((n.val - 1) % 4), 0] := by decide +kernel

/-- and so at any coordinates. -/
theorem off7_eq (i : grid0.Coords) : k0_off7 i = ![64 * (((i 0).val - 1) % 4), 0] := off7_at (i 0)

/-- The first branch is taken at the first grid point only, for every point, -/
theorem cond1_at : ∀ n : Fin 4097, k0_cond1 (point n) = 1#1 ↔ n.val = 0 := by decide +kernel

/-- and so at any coordinates. -/
theorem cond1_iff (i : grid0.Coords) : k0_cond1 i = 1#1 ↔ (i 0).val = 0 := cond1_at (i 0)

/-- The second branch is taken where a group of four heads is finished, for every point, -/
theorem cond2_at : ∀ n : Fin 4097, k0_cond2 (point n) = 1#1 ↔ (n.val - 1) % 4 = 3 := by decide +kernel

/-- and so at any coordinates. -/
theorem cond2_iff (i : grid0.Coords) : k0_cond2 i = 1#1 ↔ ((i 0).val - 1) % 4 = 3 := cond2_at (i 0)

instance (i : grid0.Coords) : ClosedOff (k0_off7 i) := ⟨![64 * (((i 0).val - 1) % 4), 0], off7_eq i⟩

end Cert.Kernel.Hand

end
-- ==== Proof.Bits.Body.lean ====
/- One run of the kernel body at one grid point: every input is handed back as it was found; what the outputs and the scratch end with is
   not named. -/
module

public import proofs.«01_k».proof.Proof.Gen.Kernel.Frame
public import proofs.«01_k».proof.Proof.Gen.Kernel.Loops
public import proofs.«01_k».proof.Proof.Bits.Closed

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

set_option maxHeartbeats 4000000 in
/-- The body at one grid point, run on the windows' blocks and the scratch, ends with the input blocks unchanged and every buffer it writes holding something. -/
theorem body_frame (c : Dev nD) (E : Set ℕ) (i : grid0.Coords) (arg1 : Memref sig .tc .smem S8192 .f32) (harg1 : arg1.IsWhole) (arg2 : Memref sig .tc .vmem S1x256x128 .f32) (harg2 : arg2.IsWhole) (arg3 : Memref sig .tc .vmem S256x128 .fp8e4m3) (harg3 : arg3.IsWhole) (arg4 : Memref sig .tc .vmem S32768x128 .fp8e4m3) (harg4 : arg4.IsWhole) (arg5 : Memref sig .tc .vmem S64x32768 .fp8e4m3) (harg5 : arg5.IsWhole) (arg6 : Memref sig .tc .vmem S1x1x256 .f32) (harg6 : arg6.IsWhole) (arg7 : Memref sig .tc .vmem S256x256 .bf16) (harg7 : arg7.IsWhole) (arg8 : Memref sig .tc .vmem S32768x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S64x256 .f32) (harg11 : arg11.IsWhole) (arg12 : Memref sig .tc .vmem S256x256 .f32) (harg12 : arg12.IsWhole)
    (x1 : Vec F S8192 .f32) (x2 : Vec F S1x256x128 .f32) (x3 : Vec F S256x128 .fp8e4m3) (x4 : Vec F S32768x128 .fp8e4m3) (x5 : Vec F S64x32768 .fp8e4m3) (x6 : Vec F S1x1x256 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_attention i arg1 harg1 arg2 harg2 arg3 harg3 arg4 harg4 arg5 harg5 arg6 harg6 arg7 harg7 arg8 harg8 arg9 harg9 arg10 harg10 arg11 harg11 arg12 harg12) K := by
  simp only [cc0_attention_eq_skeleton]; unfold cc0_attention_skel
  simp only [k0_part6_eq_skeleton, k0_part7_eq_skeleton, k0_part8_eq_skeleton, k0_part9_eq_skeleton, k0_part10_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf1 hf2 hf3 hf4 hf5 hf6
  by_cases hc1 : k0_cond1 i = 1#1 <;> by_cases hc2 : k0_cond2 i = 1#1
  all_goals
    sl_exec
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr
    swap; · iexact H12
    ipureintro; rfl

end Cert.Kernel.Hand

end
-- ==== Proof.Bits.FrameRun.lean ====
/- The frame run of the attention call: every execution ends, and the argument arrays end unchanged. What the call leaves in its result
   and in its scratch buffers is not named here. -/
module

public import proofs.«01_k».proof.Proof.Bits.Body

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The result's window: nothing is said of it. -/
def forgets0 : Fin 7 → Bool := fun w => w.val == 6

/-- The proof data: each input's buffer keeps its block, the result's is not named, the scratch is at any contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-- The body leaves the query scales' staging buffer holding its block. -/
theorem after0_0 (c : Dev nD) (t : Fin cfg0.N) : (dats m 0 c).after 0 t = iblk m c 0 t := by dsimp only [dats]
/-- The body leaves the key scales' staging buffer holding its block. -/
theorem after0_1 (c : Dev nD) (t : Fin cfg0.N) : (dats m 0 c).after 1 t = iblk m c 1 t := by dsimp only [dats]
/-- The body leaves the query codes' staging buffer holding its block. -/
theorem after0_2 (c : Dev nD) (t : Fin cfg0.N) : (dats m 0 c).after 2 t = iblk m c 2 t := by dsimp only [dats]
/-- The body leaves the key codes' staging buffer holding its block. -/
theorem after0_3 (c : Dev nD) (t : Fin cfg0.N) : (dats m 0 c).after 3 t = iblk m c 3 t := by dsimp only [dats]
/-- The body leaves the value codes' staging buffer holding its block. -/
theorem after0_4 (c : Dev nD) (t : Fin cfg0.N) : (dats m 0 c).after 4 t = iblk m c 4 t := by dsimp only [dats]
/-- The body leaves the value scales' staging buffer holding its block. -/
theorem after0_5 (c : Dev nD) (t : Fin cfg0.N) : (dats m 0 c).after 5 t = iblk m c 5 t := by dsimp only [dats]
/-- The body finds the query scales' staging buffer holding its block. -/
theorem before0_0 (c : Dev nD) (t : Fin cfg0.N) (d) : (dats m 0 c).before 0 t d = iblk m c 0 t :=
  before0_0_of m (dats m 0 c) (A_eq m c 0) (after0_0 m c) t d
/-- The body finds the key scales' staging buffer holding its block. -/
theorem before0_1 (c : Dev nD) (t : Fin cfg0.N) (d) : (dats m 0 c).before 1 t d = iblk m c 1 t :=
  before0_1_of m (dats m 0 c) (A_eq m c 1) (after0_1 m c) t d
/-- The body finds the query codes' staging buffer holding its block. -/
theorem before0_2 (c : Dev nD) (t : Fin cfg0.N) (d) : (dats m 0 c).before 2 t d = iblk m c 2 t :=
  before0_2_of m (dats m 0 c) (A_eq m c 2) (after0_2 m c) t d
/-- The body finds the key codes' staging buffer holding its block. -/
theorem before0_3 (c : Dev nD) (t : Fin cfg0.N) (d) : (dats m 0 c).before 3 t d = iblk m c 3 t :=
  before0_3_of m (dats m 0 c) (A_eq m c 3) (after0_3 m c) t d
/-- The body finds the value codes' staging buffer holding its block. -/
theorem before0_4 (c : Dev nD) (t : Fin cfg0.N) (d) : (dats m 0 c).before 4 t d = iblk m c 4 t :=
  before0_4_of m (dats m 0 c) (A_eq m c 4) (after0_4 m c) t d
/-- The body finds the value scales' staging buffer holding its block. -/
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d))

/-- The scratch buffers as the body takes them. -/
theorem PhiA_eq (c : Dev nD) : (Pipeline.ΦA spec0 c : sProp 𝕄) =
    iprop(((∃ d, owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d)
      ∗ (∃ d, owns (c : Thread nD τ) (Memref.whole cc0_scratch3) fullShare d)
      ∗ (∃ d, owns (c : Thread nD τ) (Memref.whole cc0_scratch4) fullShare d)) ∗ ∃ r, prngReg c r) := by
  unfold Pipeline.ΦA
  rw [scopedRest0_eq]
  simp only [owns_whole]

/-- The body meets the proof data at every grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, PhiA_eq]
  iintro ⟨⟨⟨HS0, HS1, HS2, HS3, HS4⟩, HP⟩, Ho, ⟨%d0, H0⟩, ⟨%d1, H1⟩, ⟨%d2, H2⟩, ⟨%d3, H3⟩, ⟨%d4, H4⟩, ⟨%d5, H5⟩, H6⟩
  iapply (body_frame c Set.univ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 HP]
  · isplitl [HS0 HS1 HS2 HS3 HS4]
    · isplitl [HS0]; · iexact HS0
      isplitl [HS1]; · iexact HS1
      isplitl [HS2]; · iexact HS2
      isplitl [HS3]; · iexact HS3
      iexact HS4
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The row of the definitions' table that a grid point calls is the body at that point's staging buffers. -/
theorem defs₀_row (t : Fin cfg0.N) :
    defs₀ (F := F) .tc cfg0.body (cfg0.bodyArgs t (cfg0.slots t)) = bodyAt0 t := by
  unfold defs₀; rw [Defs.onTc_tc]

/-- The body's obligation at every point, the result's window forgotten. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The launch: every execution ends, with every semaphore counter at zero. -/
theorem run_frame : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h' => ⟨fun c =>
    have h : Pipeline.RDat.FramePost (cfgs 0) (fun c => (dats m 0 c).toRForget forgets0) (V m) r := h'.1
    ⟨(Pipeline.RDat.FramePost.arr_in (cfg₁ := cfgs 0) h c 2 rfl).trans ((A_eq m c 2).trans (V_main_arg0 m c)),
      ((h c).2 main_arg1 (Pipeline.mem_restRefs_of main_arg1 (by decide) (by decide))).trans (V_main_arg1 m c),
      (Pipeline.RDat.FramePost.arr_in (cfg₁ := cfgs 0) h c 3 rfl).trans ((A_eq m c 3).trans (V_main_arg2 m c)),
      ((h c).2 main_arg3 (Pipeline.mem_restRefs_of main_arg3 (by decide) (by decide))).trans (V_main_arg3 m c),
      (Pipeline.RDat.FramePost.arr_in (cfg₁ := cfgs 0) h c 4 rfl).trans ((A_eq m c 4).trans (V_main_arg4 m c)),
      ((h c).2 main_arg5 (Pipeline.mem_restRefs_of main_arg5 (by decide) (by decide))).trans (V_main_arg5 m c)⟩, h'.2⟩) (run_frame m ρ)

end Cert.Kernel.Hand

end
-- ==== Proof.Ideal.Closed.lean ====
/- The grid point's words in closed form: where the finished head's rows go in the group's buffer, at which points the running maximum is
   reset, and at which points a group is written out. -/
module

public import proofs.«01_k».proof.Proof.Gen.KernelIdeal
public import Idealize.ShloMosaic.Lib.Exec

@[expose] public section

noncomputable section

namespace Cert.KernelIdeal.Hand

open Idealize.ShloMosaic Idealize.ShloMosaic.TcCoe Idealize.ShloMosaic.Tactic
open Cert.KernelIdeal.Gen

/-- The grid point of a number below 4097. -/
def point (n : Fin 4097) : grid0.Coords := fun a => ⟨n.val, by
  have h : a = 0 := Subsingleton.elim _ _
  subst h; exact n.isLt⟩

/-- The row of the group's buffer that a grid point writes its head at, for every point, -/
theorem off7_at : ∀ n : Fin 4097, k0_off7 (point n) = ![64 * ((n.val - 1) % 4), 0] := by decide +kernel

/-- and so at any coordinates. -/
theorem off7_eq (i : grid0.Coords) : k0_off7 i = ![64 * (((i 0).val - 1) % 4), 0] := off7_at (i 0)

/-- The first branch is taken at the first grid point only, for every point, -/
theorem cond1_at : ∀ n : Fin 4097, k0_cond1 (point n) = 1#1 ↔ n.val = 0 := by decide +kernel

/-- and so at any coordinates. -/
theorem cond1_iff (i : grid0.Coords) : k0_cond1 i = 1#1 ↔ (i 0).val = 0 := cond1_at (i 0)

/-- The second branch is taken where a group of four heads is finished, for every point, -/
theorem cond2_at : ∀ n : Fin 4097, k0_cond2 (point n) = 1#1 ↔ (n.val - 1) % 4 = 3 := by decide +kernel

/-- and so at any coordinates. -/
theorem cond2_iff (i : grid0.Coords) : k0_cond2 i = 1#1 ↔ ((i 0).val - 1) % 4 = 3 := cond2_at (i 0)

instance (i : grid0.Coords) : ClosedOff (k0_off7 i) := ⟨![64 * (((i 0).val - 1) % 4), 0], off7_eq i⟩

end Cert.KernelIdeal.Hand

end
-- ==== Proof.Ideal.Body.lean ====
/- One run of the kernel body at one grid point: every input is handed back as it was found; what the outputs and the scratch end with is
   not named. -/
module

public import proofs.«01_k».proof.Proof.Gen.KernelIdeal.Frame
public import proofs.«01_k».proof.Proof.Gen.KernelIdeal.Loops
public import proofs.«01_k».proof.Proof.Ideal.Closed

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 4000000 in
/-- The body at one grid point, run on the windows' blocks and the scratch, ends with the input blocks unchanged and every buffer it writes holding something. -/
theorem body_frame (c : Dev nD) (E : Set ℕ) (i : grid0.Coords) (arg1 : Memref sig .tc .smem S8192 .f32) (harg1 : arg1.IsWhole) (arg2 : Memref sig .tc .vmem S1x256x128 .f32) (harg2 : arg2.IsWhole) (arg3 : Memref sig .tc .vmem S256x128 .fp8e4m3) (harg3 : arg3.IsWhole) (arg4 : Memref sig .tc .vmem S32768x128 .fp8e4m3) (harg4 : arg4.IsWhole) (arg5 : Memref sig .tc .vmem S64x32768 .fp8e4m3) (harg5 : arg5.IsWhole) (arg6 : Memref sig .tc .vmem S1x1x256 .f32) (harg6 : arg6.IsWhole) (arg7 : Memref sig .tc .vmem S256x256 .bf16) (harg7 : arg7.IsWhole) (arg8 : Memref sig .tc .vmem S32768x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S64x256 .f32) (harg11 : arg11.IsWhole) (arg12 : Memref sig .tc .vmem S256x256 .f32) (harg12 : arg12.IsWhole)
    (x1 : Vec F S8192 .f32) (x2 : Vec F S1x256x128 .f32) (x3 : Vec F S256x128 .fp8e4m3) (x4 : Vec F S32768x128 .fp8e4m3) (x5 : Vec F S64x32768 .fp8e4m3) (x6 : Vec F S1x1x256 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_attention i arg1 harg1 arg2 harg2 arg3 harg3 arg4 harg4 arg5 harg5 arg6 harg6 arg7 harg7 arg8 harg8 arg9 harg9 arg10 harg10 arg11 harg11 arg12 harg12) K := by
  simp only [cc0_attention_eq_skeleton]; unfold cc0_attention_skel
  simp only [k0_part6_eq_skeleton, k0_part7_eq_skeleton, k0_part8_eq_skeleton, k0_part9_eq_skeleton, k0_part10_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf1 hf2 hf3 hf4 hf5 hf6
  by_cases hc1 : k0_cond1 i = 1#1 <;> by_cases hc2 : k0_cond2 i = 1#1
  all_goals
    sl_exec
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr
    swap; · iexact H12
    ipureintro; rfl

end Cert.KernelIdeal.Hand

end
-- ==== Proof.Ideal.FrameRun.lean ====
/- The frame run of the attention call: every execution ends, and the argument arrays end unchanged. What the call leaves in its result
   and in its scratch buffers is not named here. -/
module

public import proofs.«01_k».proof.Proof.Ideal.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The result's window: nothing is said of it. -/
def forgets0 : Fin 7 → Bool := fun w => w.val == 6

/-- The proof data: each input's buffer keeps its block, the result's is not named, the scratch is at any contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-- The body leaves the query scales' staging buffer holding its block. -/
theorem after0_0 (c : Dev nD) (t : Fin cfg0.N) : (dats m 0 c).after 0 t = iblk m c 0 t := by dsimp only [dats]
/-- The body leaves the key scales' staging buffer holding its block. -/
theorem after0_1 (c : Dev nD) (t : Fin cfg0.N) : (dats m 0 c).after 1 t = iblk m c 1 t := by dsimp only [dats]
/-- The body leaves the query codes' staging buffer holding its block. -/
theorem after0_2 (c : Dev nD) (t : Fin cfg0.N) : (dats m 0 c).after 2 t = iblk m c 2 t := by dsimp only [dats]
/-- The body leaves the key codes' staging buffer holding its block. -/
theorem after0_3 (c : Dev nD) (t : Fin cfg0.N) : (dats m 0 c).after 3 t = iblk m c 3 t := by dsimp only [dats]
/-- The body leaves the value codes' staging buffer holding its block. -/
theorem after0_4 (c : Dev nD) (t : Fin cfg0.N) : (dats m 0 c).after 4 t = iblk m c 4 t := by dsimp only [dats]
/-- The body leaves the value scales' staging buffer holding its block. -/
theorem after0_5 (c : Dev nD) (t : Fin cfg0.N) : (dats m 0 c).after 5 t = iblk m c 5 t := by dsimp only [dats]
/-- The body finds the query scales' staging buffer holding its block. -/
theorem before0_0 (c : Dev nD) (t : Fin cfg0.N) (d) : (dats m 0 c).before 0 t d = iblk m c 0 t :=
  before0_0_of m (dats m 0 c) (A_eq m c 0) (after0_0 m c) t d
/-- The body finds the key scales' staging buffer holding its block. -/
theorem before0_1 (c : Dev nD) (t : Fin cfg0.N) (d) : (dats m 0 c).before 1 t d = iblk m c 1 t :=
  before0_1_of m (dats m 0 c) (A_eq m c 1) (after0_1 m c) t d
/-- The body finds the query codes' staging buffer holding its block. -/
theorem before0_2 (c : Dev nD) (t : Fin cfg0.N) (d) : (dats m 0 c).before 2 t d = iblk m c 2 t :=
  before0_2_of m (dats m 0 c) (A_eq m c 2) (after0_2 m c) t d
/-- The body finds the key codes' staging buffer holding its block. -/
theorem before0_3 (c : Dev nD) (t : Fin cfg0.N) (d) : (dats m 0 c).before 3 t d = iblk m c 3 t :=
  before0_3_of m (dats m 0 c) (A_eq m c 3) (after0_3 m c) t d
/-- The body finds the value codes' staging buffer holding its block. -/
theorem before0_4 (c : Dev nD) (t : Fin cfg0.N) (d) : (dats m 0 c).before 4 t d = iblk m c 4 t :=
  before0_4_of m (dats m 0 c) (A_eq m c 4) (after0_4 m c) t d
/-- The body finds the value scales' staging buffer holding its block. -/
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d))

/-- The scratch buffers as the body takes them. -/
theorem PhiA_eq (c : Dev nD) : (Pipeline.ΦA spec0 c : sProp 𝕄) =
    iprop(((∃ d, owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d)
      ∗ (∃ d, owns (c : Thread nD τ) (Memref.whole cc0_scratch3) fullShare d)
      ∗ (∃ d, owns (c : Thread nD τ) (Memref.whole cc0_scratch4) fullShare d)) ∗ ∃ r, prngReg c r) := by
  unfold Pipeline.ΦA
  rw [scopedRest0_eq]
  simp only [owns_whole]

/-- The body meets the proof data at every grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, PhiA_eq]
  iintro ⟨⟨⟨HS0, HS1, HS2, HS3, HS4⟩, HP⟩, Ho, ⟨%d0, H0⟩, ⟨%d1, H1⟩, ⟨%d2, H2⟩, ⟨%d3, H3⟩, ⟨%d4, H4⟩, ⟨%d5, H5⟩, H6⟩
  iapply (body_frame c Set.univ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 HP]
  · isplitl [HS0 HS1 HS2 HS3 HS4]
    · isplitl [HS0]; · iexact HS0
      isplitl [HS1]; · iexact HS1
      isplitl [HS2]; · iexact HS2
      isplitl [HS3]; · iexact HS3
      iexact HS4
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The row of the definitions' table that a grid point calls is the body at that point's staging buffers. -/
theorem defs₀_row (t : Fin cfg0.N) :
    defs₀ (F := F) .tc cfg0.body (cfg0.bodyArgs t (cfg0.slots t)) = bodyAt0 t := by
  unfold defs₀; rw [Defs.onTc_tc]

/-- The body's obligation at every point, the result's window forgotten. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The launch: every execution ends, with every semaphore counter at zero. -/
theorem run_frame : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h' => ⟨fun c =>
    have h : Pipeline.RDat.FramePost (cfgs 0) (fun c => (dats m 0 c).toRForget forgets0) (V m) r := h'.1
    ⟨(Pipeline.RDat.FramePost.arr_in (cfg₁ := cfgs 0) h c 2 rfl).trans ((A_eq m c 2).trans (V_main_arg0 m c)),
      ((h c).2 main_arg1 (Pipeline.mem_restRefs_of main_arg1 (by decide) (by decide))).trans (V_main_arg1 m c),
      (Pipeline.RDat.FramePost.arr_in (cfg₁ := cfgs 0) h c 3 rfl).trans ((A_eq m c 3).trans (V_main_arg2 m c)),
      ((h c).2 main_arg3 (Pipeline.mem_restRefs_of main_arg3 (by decide) (by decide))).trans (V_main_arg3 m c),
      (Pipeline.RDat.FramePost.arr_in (cfg₁ := cfgs 0) h c 4 rfl).trans ((A_eq m c 4).trans (V_main_arg4 m c)),
      ((h c).2 main_arg5 (Pipeline.mem_restRefs_of main_arg5 (by decide) (by decide))).trans (V_main_arg5 m c)⟩, h'.2⟩) (run_frame m ρ)

end Cert.KernelIdeal.Hand

end
-- ==== Proof.Ideal.Ops.lean ====
/- What the payloads of one sub-block of the main loop compute, element by element; and a matrix read at two naturals. -/
module

public import proofs.«01_k».proof.Proof.Gen.KernelIdeal.Skeleton
public import Idealize.ShloMosaic.Lib.Pointwise
public import Idealize.ShloMosaic.Lib.VecWindow
public import Idealize.ShloMosaic.Lib.WritesUnit

@[expose] public section

set_option maxRecDepth 16384

noncomputable section

namespace Cert.KernelIdeal.Val

open Idealize.ShloMosaic Idealize.ShloMosaic.TcCoe Idealize.ShloMosaic.Tactic
open Cert.KernelIdeal.Gen

/-- A matrix at row `r` and column `c`; outside of it, zero. -/
def at2 {R C : ℕ} (x : (⟨2, ![R, C]⟩ : Shape).Idx → EReal) (r c : ℕ) : EReal :=
  if h : r < R ∧ c < C then x (ix2 ⟨r, h.1⟩ ⟨c, h.2⟩) else 0

/-- A matrix's entry at two numbers below its sizes is its entry at their index. -/
theorem at2_ix {R C : ℕ} (x : (⟨2, ![R, C]⟩ : Shape).Idx → EReal) (a : Fin R) (b : Fin C) : at2 x a.val b.val = x (ix2 a b) := by
  unfold at2; rw [dif_pos ⟨a.isLt, b.isLt⟩]

/-- A matrix's entry at an index is its entry at the index's two numbers, -/
theorem at2_idx {R C : ℕ} (x : (⟨2, ![R, C]⟩ : Shape).Idx → EReal) (y : (⟨2, ![R, C]⟩ : Shape).Idx) :
    at2 x (y 0).val (y 1).val = x y := by
  rw [at2_ix x (y 0) (y 1)]
  congr 1
  funext a; match a with | ⟨0, _⟩ => rfl | ⟨1, _⟩ => rfl

/-- and at any two numbers equal to them. -/
theorem at2_of {R C : ℕ} (x : (⟨2, ![R, C]⟩ : Shape).Idx → EReal) (y : (⟨2, ![R, C]⟩ : Shape).Idx) (r c : ℕ)
    (h0 : (y 0).val = r) (h1 : (y 1).val = c) : x y = at2 x r c := by
  subst h0 h1; exact (at2_idx x y).symm

/-- A load of a rectangle of an `f32` matrix. -/
theorem readAt_f32 {sp : Space} {R C : ℕ} (v : View sig .tc sp ⟨2, ![R, C]⟩ .f32) (f : v.ty.Contents (Elt Ideal)) {off size : Fin 2 → ℕ}
    (inb : ∀ a : Fin 2, off a + size a ≤ (![R, C] : Fin 2 → ℕ) a) (o c : ℕ) (h : off = ![o, c]) (y : (⟨2, size⟩ : Shape).Idx) :
    v.readAt (Elt Ideal) (Rect.unit (s := ⟨2, ![R, C]⟩) off size inb).toLoadRect f y = at2 (v.read (Elt Ideal) f) (o + (y 0).val) (c + (y 1).val) := by
  subst h
  refine at2_of (v.read (Elt Ideal) f) _ _ _ ?_ ?_
  · show o + 1 * (y 0).val = _; omega
  · show c + 1 * (y 1).val = _; omega

/-- A load of a rectangle of an 8-bit matrix. -/
theorem readAt_f8 {sp : Space} {R C : ℕ} (v : View sig .tc sp ⟨2, ![R, C]⟩ .fp8e4m3) (f : v.ty.Contents (Elt Ideal)) {off size : Fin 2 → ℕ}
    (inb : ∀ a : Fin 2, off a + size a ≤ (![R, C] : Fin 2 → ℕ) a) (o c : ℕ) (h : off = ![o, c]) (y : (⟨2, size⟩ : Shape).Idx) :
    v.readAt (Elt Ideal) (Rect.unit (s := ⟨2, ![R, C]⟩) off size inb).toLoadRect f y = at2 (v.read (Elt Ideal) f) (o + (y 0).val) (c + (y 1).val) := by
  subst h
  refine at2_of (v.read (Elt Ideal) f) _ _ _ ?_ ?_
  · show o + 1 * (y 0).val = _; omega
  · show c + 1 * (y 1).val = _; omega

/-- The scaled score of key `n` and query `j`: the product of codes times the row factor of the key's 128-row block. -/
def scU (K : S32768x128.Idx → EReal) (Q : S256x128.Idx → EReal) (C : S256x256.Idx → EReal) (n j : ℕ) : EReal :=
  (∑ d : Fin 128, at2 K n d.val * at2 Q j d.val) * at2 C (n / 128) j

/-- The probability (unnormalised) of key `n` for query `j`, from stored scores and the shift. -/
def scP (S : S32768x256.Idx → EReal) (V : S1x256.Idx → EReal) (n j : ℕ) : EReal :=
  FloatOps.exp2 (F := Ideal) (φ := .f32) (at2 S n j - at2 V 0 j)

/-- The code of a probability: clipped to the largest finite 8-bit value. -/
def scC (p : EReal) : EReal := min p (Ideal.ofBits .f32 0x43E00000#32)

/-- A block of probabilities: the power of two of each stored score under the row's shifted maximum. -/
theorem pay3_apply (S : S32768x256.Idx → EReal) (v : FVec Ideal S1x256 .f32) (s : Vec Ideal S256x256 .f32) (o : ℕ)
    (hs : ∀ y : S256x256.Idx, s y = at2 S (o + (y 0).val) (y 1).val) (y : S256x256.Idx) :
    k0_pay3 v s y = scP S v (o + (y 0).val) (y 1).val := by
  unfold scP
  rw [← hs y]
  pointwise [k0_pay3]
  rw [at2_of v (ix2 0 (y 1)) 0 (y 1).val rfl rfl]

/-- The row sums, kept in eight classes, take in a block of probabilities. -/
theorem pay4_apply (S : S32768x256.Idx → EReal) (v : FVec Ideal S1x256 .f32) (acc : FVec Ideal S8x256 .f32) (s : Vec Ideal S256x256 .f32) (o : ℕ)
    (hs : ∀ y : S256x256.Idx, s y = at2 S (o + (y 0).val) (y 1).val) (y : S8x256.Idx) :
    k0_pay4 v acc s y = acc y + ∑ x : Fin 32, scP S v (o + (x.val * 8 + (y 0).val)) (y 1).val := by
  pointwise [k0_pay4]
  congr 1
  refine Finset.sum_congr rfl fun x _ => ?_
  rw [pay3_apply S v s o hs]; rfl

/-- The accumulator takes in the product of a block of value codes and the codes of a block of probabilities. -/
theorem pay5_apply (S : S32768x256.Idx → EReal) (T : S64x32768.Idx → EReal) (v : FVec Ideal S1x256 .f32) (s : Vec Ideal S256x256 .f32) (a : Vec Ideal S64x256 .f32)
    (vt : Vec Ideal S64x256 .fp8e4m3) (o : ℕ)
    (hs : ∀ y : S256x256.Idx, s y = at2 S (o + (y 0).val) (y 1).val)
    (hv : ∀ y : S64x256.Idx, vt y = at2 T (y 0).val (o + (y 1).val)) (y : S64x256.Idx) :
    k0_pay5 v s a vt y = a y + ∑ x : Fin 256, at2 T (y 0).val (o + x.val) * scC (scP S v (o + x.val) (y 1).val) := by
  pointwise [k0_pay5]
  congr 1
  refine Finset.sum_congr rfl fun x _ => ?_
  rw [pay3_apply S v s o hs, hv]; rfl

/-- A block of scores: the product of key and query codes, times the factor of the key block. -/
theorem pay8_apply (K : S32768x128.Idx → EReal) (C : S256x256.Idx → EReal)
    (q : FVec Ideal S256x128 .fp8e4m3) (kb : Vec Ideal S256x128 .fp8e4m3) (c0 c1 : Vec Ideal S1x256 .f32) (o : ℕ)
    (hk : ∀ y : S256x128.Idx, kb y = at2 K (128 * o + (y 0).val) (y 1).val)
    (h0 : ∀ y : S1x256.Idx, c0 y = at2 C (o + (y 0).val) (y 1).val)
    (h1 : ∀ y : S1x256.Idx, c1 y = at2 C (o + 1 + (y 0).val) (y 1).val) (y : S256x256.Idx) :
    k0_pay8 (k0_pay6 q kb) (k0_pay7 q kb c0) c1 y = scU K q C (128 * o + (y 0).val) (y 1).val := by
  have hlt : (y 0).val < 256 := (y 0).isLt
  pointwise [k0_pay8, k0_pay7, k0_pay6]
  unfold scU
  split
  · rename_i h
    rw [h0, show (128 * o + (y 0).val) / 128 = o + 0 by omega]
    congr 1
    refine Finset.sum_congr rfl fun x _ => ?_
    rw [hk, at2_of q (ix2 (y 1) x) (y 1).val x.val rfl rfl]; rfl
  · rename_i h
    rw [h1, show (128 * o + (y 0).val) / 128 = o + 1 + 0 by omega]
    congr 1
    refine Finset.sum_congr rfl fun x _ => ?_
    rw [hk, at2_of q (ix2 (y 1) x) (y 1).val x.val rfl rfl]
    congr 1
    show at2 K (128 * o + (128 + ((y 0).val - 128))) x.val = _
    rw [show 128 + ((y 0).val - 128) = (y 0).val by omega]

/-- The word of minus infinity. -/
theorem ofBits_neg_inf : Ideal.ofBits .f32 0xFF800000#32 = ⊥ := by simp [Ideal.ofBits, Ideal.ieee]

/-- The row maxima, kept in eight classes, take in a block of scores: a bound of the new maxima is a bound of the old ones and of the block's scores. -/
theorem pay9_le (K : S32768x128.Idx → EReal) (C : S256x256.Idx → EReal) (acc : FVec Ideal S8x256 .f32)
    (q : FVec Ideal S256x128 .fp8e4m3) (kb : Vec Ideal S256x128 .fp8e4m3) (c0 c1 : Vec Ideal S1x256 .f32) (o : ℕ)
    (hk : ∀ y : S256x128.Idx, kb y = at2 K (128 * o + (y 0).val) (y 1).val)
    (h0 : ∀ y : S1x256.Idx, c0 y = at2 C (o + (y 0).val) (y 1).val)
    (h1 : ∀ y : S1x256.Idx, c1 y = at2 C (o + 1 + (y 0).val) (y 1).val) (y : S8x256.Idx) (z : EReal) :
    k0_pay9 acc (k0_pay6 q kb) (k0_pay7 q kb c0) c1 y ≤ z
      ↔ acc y ≤ z ∧ ∀ x : Fin 32, scU K q C (128 * o + (x.val * 8 + (y 0).val)) (y 1).val ≤ z := by
  have e : k0_pay9 acc (k0_pay6 q kb) (k0_pay7 q kb c0) c1 y
      = max (acc y) ((Finset.univ : Finset (Fin 32)).fold max ⊥ fun x => scU K q C (128 * o + (x.val * 8 + (y 0).val)) (y 1).val) := by
    pointwise [k0_pay9]
    rw [ofBits_neg_inf]
    congr 2
    funext x
    rw [pay8_apply K C q kb c0 c1 o hk h0 h1]; rfl
  rw [e, max_le_iff, Finset.fold_max_le]
  simp

end Cert.KernelIdeal.Val

end
-- ==== Proof.Ideal.Words.lean ====
/- The words the body computes from its grid point, in closed form; the query codes masked to one head's half of the lanes; the factors of
   the scores. -/
module

public import proofs.«01_k».proof.Proof.Ideal.Ops
public import proofs.«01_k».proof.Proof.Ideal.Closed

@[expose] public section

set_option maxRecDepth 16384

noncomputable section

namespace Cert.KernelIdeal.Val

open Idealize.ShloMosaic Idealize.ShloMosaic.TcCoe Idealize.ShloMosaic.Tactic
open Cert.KernelIdeal.Gen Cert.KernelIdeal.Hand

/-- The tile whose scores point `n` computes, -/
def tileOf (n : ℕ) : ℕ := min n 4095
/-- its key/value head, -/
def gOf (n : ℕ) : ℕ := tileOf n / 512
/-- its block of 256 queries, -/
def qbOf (n : ℕ) : ℕ := tileOf n % 512 / 4
/-- and its query head. -/
def hOf (n : ℕ) : ℕ := 4 * gOf n + tileOf n % 4

/-- The query head modulo 2, as the body computes it. -/
def w71 (i : grid0.Coords) : BitVec 32 :=
  let v0 : BitVec 32 := Scalar.minsi (BitVec.ofNat 32 (i 0).val) 4095#32
  let v2 : BitVec 1 := Scalar.cmpi .sgt v0 0#32
  let v3 : BitVec 32 := Scalar.extui v2
  let v4 : BitVec 1 := Scalar.cmpi .slt v0 0#32
  let v5 : BitVec 32 := Scalar.extui v4
  let v6 : BitVec 32 := Scalar.subi v3 v5
  let v7 : BitVec 1 := Scalar.cmpi .sgt 512#32 0#32
  let v8 : BitVec 32 := Scalar.extui v7
  let v9 : BitVec 1 := Scalar.cmpi .slt 512#32 0#32
  let v10 : BitVec 32 := Scalar.extui v9
  let v11 : BitVec 32 := Scalar.subi v8 v10
  let v12 : BitVec 1 := Scalar.cmpi .ne v6 v11
  let v13 : BitVec 32 := Scalar.remsi v0 512#32
  let v14 : BitVec 1 := Scalar.cmpi .ne v13 0#32
  let v15 : BitVec 1 := Scalar.andi v12 v14
  let v1 : BitVec 32 := Scalar.divsi v0 512#32
  let v16 : BitVec 32 := Scalar.subi v1 1#32
  let v17 : BitVec 32 := Scalar.select v15 v16 v1
  let v45 : BitVec 32 := Scalar.muli v17 4#32
  let v46 : BitVec 1 := Scalar.cmpi .eq 4#32 0#32
  let v47 : BitVec 32 := Scalar.select v46 1#32 4#32
  let v48 : BitVec 32 := Scalar.remsi v0 v47
  let v50 : BitVec 1 := Scalar.cmpi .slt v48 0#32
  let v51 : BitVec 1 := Scalar.cmpi .slt v47 0#32
  let v52 : BitVec 1 := Scalar.xori v50 v51
  let v49 : BitVec 1 := Scalar.cmpi .ne v48 0#32
  let v53 : BitVec 1 := Scalar.andi v52 v49
  let v54 : BitVec 32 := Scalar.addi v48 v47
  let v55 : BitVec 32 := Scalar.select v53 v54 v48
  let v56 : BitVec 32 := Scalar.addi v45 v55
  let v62 : BitVec 1 := Scalar.cmpi .eq 2#32 0#32
  let v63 : BitVec 32 := Scalar.select v62 1#32 2#32
  let v64 : BitVec 32 := Scalar.remsi v56 v63
  let v66 : BitVec 1 := Scalar.cmpi .slt v64 0#32
  let v67 : BitVec 1 := Scalar.cmpi .slt v63 0#32
  let v68 : BitVec 1 := Scalar.xori v66 v67
  let v65 : BitVec 1 := Scalar.cmpi .ne v64 0#32
  let v69 : BitVec 1 := Scalar.andi v68 v65
  let v70 : BitVec 32 := Scalar.addi v64 v63
  let v71 : BitVec 32 := Scalar.select v69 v70 v64
  v71

/-- The key/value head modulo 2, before the sign is mended, -/
def w74 (i : grid0.Coords) : BitVec 32 :=
  let v0 : BitVec 32 := Scalar.minsi (BitVec.ofNat 32 (i 0).val) 4095#32
  let v2 : BitVec 1 := Scalar.cmpi .sgt v0 0#32
  let v3 : BitVec 32 := Scalar.extui v2
  let v4 : BitVec 1 := Scalar.cmpi .slt v0 0#32
  let v5 : BitVec 32 := Scalar.extui v4
  let v6 : BitVec 32 := Scalar.subi v3 v5
  let v7 : BitVec 1 := Scalar.cmpi .sgt 512#32 0#32
  let v8 : BitVec 32 := Scalar.extui v7
  let v9 : BitVec 1 := Scalar.cmpi .slt 512#32 0#32
  let v10 : BitVec 32 := Scalar.extui v9
  let v11 : BitVec 32 := Scalar.subi v8 v10
  let v12 : BitVec 1 := Scalar.cmpi .ne v6 v11
  let v13 : BitVec 32 := Scalar.remsi v0 512#32
  let v14 : BitVec 1 := Scalar.cmpi .ne v13 0#32
  let v15 : BitVec 1 := Scalar.andi v12 v14
  let v1 : BitVec 32 := Scalar.divsi v0 512#32
  let v16 : BitVec 32 := Scalar.subi v1 1#32
  let v17 : BitVec 32 := Scalar.select v15 v16 v1
  let v72 : BitVec 1 := Scalar.cmpi .eq 2#32 0#32
  let v73 : BitVec 32 := Scalar.select v72 1#32 2#32
  let v74 : BitVec 32 := Scalar.remsi v17 v73
  v74

/-- whether it is not zero, -/
def w75 (i : grid0.Coords) : BitVec 1 :=
  let v0 : BitVec 32 := Scalar.minsi (BitVec.ofNat 32 (i 0).val) 4095#32
  let v2 : BitVec 1 := Scalar.cmpi .sgt v0 0#32
  let v3 : BitVec 32 := Scalar.extui v2
  let v4 : BitVec 1 := Scalar.cmpi .slt v0 0#32
  let v5 : BitVec 32 := Scalar.extui v4
  let v6 : BitVec 32 := Scalar.subi v3 v5
  let v7 : BitVec 1 := Scalar.cmpi .sgt 512#32 0#32
  let v8 : BitVec 32 := Scalar.extui v7
  let v9 : BitVec 1 := Scalar.cmpi .slt 512#32 0#32
  let v10 : BitVec 32 := Scalar.extui v9
  let v11 : BitVec 32 := Scalar.subi v8 v10
  let v12 : BitVec 1 := Scalar.cmpi .ne v6 v11
  let v13 : BitVec 32 := Scalar.remsi v0 512#32
  let v14 : BitVec 1 := Scalar.cmpi .ne v13 0#32
  let v15 : BitVec 1 := Scalar.andi v12 v14
  let v1 : BitVec 32 := Scalar.divsi v0 512#32
  let v16 : BitVec 32 := Scalar.subi v1 1#32
  let v17 : BitVec 32 := Scalar.select v15 v16 v1
  let v72 : BitVec 1 := Scalar.cmpi .eq 2#32 0#32
  let v73 : BitVec 32 := Scalar.select v72 1#32 2#32
  let v74 : BitVec 32 := Scalar.remsi v17 v73
  let v75 : BitVec 1 := Scalar.cmpi .ne v74 0#32
  v75

/-- and the key/value head modulo 2. -/
def w119 (i : grid0.Coords) : BitVec 32 :=
  let v0 : BitVec 32 := Scalar.minsi (BitVec.ofNat 32 (i 0).val) 4095#32
  let v2 : BitVec 1 := Scalar.cmpi .sgt v0 0#32
  let v3 : BitVec 32 := Scalar.extui v2
  let v4 : BitVec 1 := Scalar.cmpi .slt v0 0#32
  let v5 : BitVec 32 := Scalar.extui v4
  let v6 : BitVec 32 := Scalar.subi v3 v5
  let v7 : BitVec 1 := Scalar.cmpi .sgt 512#32 0#32
  let v8 : BitVec 32 := Scalar.extui v7
  let v9 : BitVec 1 := Scalar.cmpi .slt 512#32 0#32
  let v10 : BitVec 32 := Scalar.extui v9
  let v11 : BitVec 32 := Scalar.subi v8 v10
  let v12 : BitVec 1 := Scalar.cmpi .ne v6 v11
  let v13 : BitVec 32 := Scalar.remsi v0 512#32
  let v14 : BitVec 1 := Scalar.cmpi .ne v13 0#32
  let v15 : BitVec 1 := Scalar.andi v12 v14
  let v1 : BitVec 32 := Scalar.divsi v0 512#32
  let v16 : BitVec 32 := Scalar.subi v1 1#32
  let v17 : BitVec 32 := Scalar.select v15 v16 v1
  let v110 : BitVec 1 := Scalar.cmpi .eq 2#32 0#32
  let v111 : BitVec 32 := Scalar.select v110 1#32 2#32
  let v112 : BitVec 32 := Scalar.remsi v17 v111
  let v114 : BitVec 1 := Scalar.cmpi .slt v112 0#32
  let v115 : BitVec 1 := Scalar.cmpi .slt v111 0#32
  let v116 : BitVec 1 := Scalar.xori v114 v115
  let v113 : BitVec 1 := Scalar.cmpi .ne v112 0#32
  let v117 : BitVec 1 := Scalar.andi v116 v113
  let v118 : BitVec 32 := Scalar.addi v112 v111
  let v119 : BitVec 32 := Scalar.select v117 v118 v112
  v119

/-- The query head modulo 2, for every grid point, -/
theorem w71_at : ∀ n : Fin 4097, w71 (point n) = BitVec.ofNat 32 (hOf n.val % 2) := by decide +kernel
/-- the key head modulo 2, -/
theorem w74_at : ∀ n : Fin 4097, w74 (point n) = BitVec.ofNat 32 (gOf n.val % 2) := by decide +kernel
/-- and the same computed again. -/
theorem w119_at : ∀ n : Fin 4097, w119 (point n) = BitVec.ofNat 32 (gOf n.val % 2) := by decide +kernel

/-- Where a grid point reads the scale of its first 128 queries, -/
theorem off2_0_at : ∀ n : Fin 4097, k0_off2 (point n) 0#32 = ![(qbOf n.val * 2 + 0) * 32 + hOf n.val] := by decide +kernel
/-- and of its second. -/
theorem off2_1_at : ∀ n : Fin 4097, k0_off2 (point n) 1#32 = ![(qbOf n.val * 2 + 1) * 32 + hOf n.val] := by decide +kernel

end Cert.KernelIdeal.Val

end
-- ==== Proof.Ideal.Trip.lean ====
/- One trip of the main loop: what it adds to the row sums, the row maxima, the stored scores and the accumulator. -/
module

public import proofs.«01_k».proof.Proof.Gen.KernelIdeal.Frame
public import proofs.«01_k».proof.Proof.Gen.KernelIdeal.Loops
public import proofs.«01_k».proof.Proof.Ideal.Ops

@[expose] public section

set_option maxRecDepth 16384

noncomputable section

namespace Cert.KernelIdeal.Val

open Idealize.ShloMosaic Idealize.ShloMosaic.TcCoe Idealize.ShloMosaic.Tactic
open Cert.KernelIdeal.Gen

/-- Storing 256 rows whose contents are named by row and column. -/
theorem rows_step {sp : Space} (v : View sig .tc sp S32768x256 .f32) (f : v.ty.Contents (Elt Ideal)) {off : Fin 2 → ℕ}
    (inb : ∀ a, off a + S256x256.size a ≤ S32768x256.size a) (w : S256x256.Idx → EReal) (L : List (View.Piece (Elt Ideal) S32768x256 .f32))
    (y : S32768x256.Idx) (o : ℕ) (g : ℕ → ℕ → EReal) (hoff : off = ![o, 0]) (hw : ∀ x : S256x256.Idx, w x = g (o + (x 0).val) (x 1).val) :
    v.read (Elt Ideal) (v.writes (Elt Ideal) f (⟨Rect.unit (s := S32768x256) off S256x256.size inb, w⟩ :: L)) y
      = if o ≤ (y 0).val ∧ (y 0).val < o + 256 then g (y 0).val (y 1).val else v.read (Elt Ideal) (v.writes (Elt Ideal) f L) y := by
  split
  · rename_i h
    have hy1 : (y 1).val < 256 := (y 1).isLt
    rw [View.read_writes_cons_rows_of_mem v f inb w L y (ix2 (⟨(y 0).val - o, by omega⟩ : Fin 256) (⟨(y 1).val, hy1⟩ : Fin 256)) hoff
      (show (y 0).val = o + ((y 0).val - o) by omega) rfl]
    refine (hw _).trans ?_
    show g (o + ((y 0).val - o)) (y 1).val = _
    rw [show o + ((y 0).val - o) = (y 0).val by omega]
  · rename_i h
    rw [View.read_writes_cons_rows_of_not_mem (W := 256) v f inb w L y hoff rfl (by omega)]

section Trip
variable (𝒱 : Variants) (c : Dev nD) (bd : Option 𝒱.V) (i : grid0.Coords) (arg1 : Memref sig .tc .smem S8192 .f32) (harg1 : arg1.IsWhole) (arg2 : Memref sig .tc .vmem S1x256x128 .f32) (harg2 : arg2.IsWhole) (arg3 : Memref sig .tc .vmem S256x128 .fp8e4m3) (harg3 : arg3.IsWhole) (arg4 : Memref sig .tc .vmem S32768x128 .fp8e4m3) (harg4 : arg4.IsWhole) (arg5 : Memref sig .tc .vmem S64x32768 .fp8e4m3) (harg5 : arg5.IsWhole) (arg6 : Memref sig .tc .vmem S1x1x256 .f32) (harg6 : arg6.IsWhole) (arg7 : Memref sig .tc .vmem S256x256 .bf16) (harg7 : arg7.IsWhole) (arg8 : Memref sig .tc .vmem S32768x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S64x256 .f32) (harg11 : arg11.IsWhole) (arg12 : Memref sig .tc .vmem S256x256 .f32) (harg12 : arg12.IsWhole) (arg0 : BitVec 32) (v125 : FVec Ideal S256x128 .fp8e4m3) (v154 : Vec Ideal S1x256 .f32) (v155 : FVec Ideal S1x256 .f32) (X_arg4 : BufTy.Contents (Elt Ideal) arg4.view.ty) (X_arg5 : BufTy.Contents (Elt Ideal) arg5.view.ty) (X_arg9 : BufTy.Contents (Elt Ideal) arg9.view.ty) (k : Fin k0_t2_loop.trips) (acc : FVec Ideal S8x256 .f32 × FVec Ideal S8x256 .f32) (f_arg8 : BufTy.Contents (Elt Ideal) arg8.view.ty) (f_arg11 : BufTy.Contents (Elt Ideal) arg11.view.ty)

/-- One trip's row sums: four blocks of probabilities taken in. -/
theorem tripR1 : (tripR_k0_t2 (F := Ideal) 𝒱 c bd i arg1 harg1 arg2 harg2 arg3 harg3 arg4 harg4 arg5 harg5 arg6 harg6 arg7 harg7 arg8 harg8 arg9 harg9 arg10 harg10 arg11 harg11 arg12 harg12 arg0 v125 v154 v155 X_arg4 X_arg5 X_arg9 k acc f_arg8 f_arg11).1 =
    k0_pay4 (k0_pay41 v154 v155) (k0_pay4 (k0_pay41 v154 v155) (k0_pay4 (k0_pay41 v154 v155) (k0_pay4 (k0_pay41 v154 v155) acc.1
      (arg8.view.readAt (Elt Ideal) (Rect.unit (s := S32768x256) (k0_off3 k 0#32) S256x256.size (k0_off3_inb k 0)).toLoadRect f_arg8))
      (arg8.view.readAt (Elt Ideal) (Rect.unit (s := S32768x256) (k0_off3 k 256#32) S256x256.size (k0_off3_inb k 1)).toLoadRect f_arg8))
      (arg8.view.readAt (Elt Ideal) (Rect.unit (s := S32768x256) (k0_off3 k 512#32) S256x256.size (k0_off3_inb k 2)).toLoadRect f_arg8))
      (arg8.view.readAt (Elt Ideal) (Rect.unit (s := S32768x256) (k0_off3 k 768#32) S256x256.size (k0_off3_inb k 3)).toLoadRect f_arg8) := by
  unfold tripR_k0_t2 trip_k0_t2; dsimp only; rfl

/-- One trip's row maxima: four blocks of scores taken in. -/
theorem tripR2 : (tripR_k0_t2 (F := Ideal) 𝒱 c bd i arg1 harg1 arg2 harg2 arg3 harg3 arg4 harg4 arg5 harg5 arg6 harg6 arg7 harg7 arg8 harg8 arg9 harg9 arg10 harg10 arg11 harg11 arg12 harg12 arg0 v125 v154 v155 X_arg4 X_arg5 X_arg9 k acc f_arg8 f_arg11).2 = (k0_pay9 (k0_pay9 (k0_pay9 (k0_pay9 acc.2 (k0_pay6 v125 (arg4.view.readAt (Elt Ideal) (Rect.unit (s := S32768x128) (k0_off5 k 0#32) S256x128.size (k0_off5_inb k 0)).toLoadRect X_arg4)) (k0_pay7 v125 (arg4.view.readAt (Elt Ideal) (Rect.unit (s := S32768x128) (k0_off5 k 0#32) S256x128.size (k0_off5_inb k 0)).toLoadRect X_arg4) (arg9.view.readAt (Elt Ideal) (Rect.unit (s := S256x256) (k0_off6 k 0#32 0#32) S1x256.size (k0_off6_inb k 0 0)).toLoadRect X_arg9)) (arg9.view.readAt (Elt Ideal) (Rect.unit (s := S256x256) (k0_off6 k 0#32 1#32) S1x256.size (k0_off6_inb k 0 1)).toLoadRect X_arg9)) (k0_pay6 v125 (arg4.view.readAt (Elt Ideal) (Rect.unit (s := S32768x128) (k0_off5 k 256#32) S256x128.size (k0_off5_inb k 1)).toLoadRect X_arg4)) (k0_pay7 v125 (arg4.view.readAt (Elt Ideal) (Rect.unit (s := S32768x128) (k0_off5 k 256#32) S256x128.size (k0_off5_inb k 1)).toLoadRect X_arg4) (arg9.view.readAt (Elt Ideal) (Rect.unit (s := S256x256) (k0_off6 k 2#32 0#32) S1x256.size (k0_off6_inb k 1 0)).toLoadRect X_arg9)) (arg9.view.readAt (Elt Ideal) (Rect.unit (s := S256x256) (k0_off6 k 2#32 1#32) S1x256.size (k0_off6_inb k 1 1)).toLoadRect X_arg9)) (k0_pay6 v125 (arg4.view.readAt (Elt Ideal) (Rect.unit (s := S32768x128) (k0_off5 k 512#32) S256x128.size (k0_off5_inb k 2)).toLoadRect X_arg4)) (k0_pay7 v125 (arg4.view.readAt (Elt Ideal) (Rect.unit (s := S32768x128) (k0_off5 k 512#32) S256x128.size (k0_off5_inb k 2)).toLoadRect X_arg4) (arg9.view.readAt (Elt Ideal) (Rect.unit (s := S256x256) (k0_off6 k 4#32 0#32) S1x256.size (k0_off6_inb k 2 0)).toLoadRect X_arg9)) (arg9.view.readAt (Elt Ideal) (Rect.unit (s := S256x256) (k0_off6 k 4#32 1#32) S1x256.size (k0_off6_inb k 2 1)).toLoadRect X_arg9)) (k0_pay6 v125 (arg4.view.readAt (Elt Ideal) (Rect.unit (s := S32768x128) (k0_off5 k 768#32) S256x128.size (k0_off5_inb k 3)).toLoadRect X_arg4)) (k0_pay7 v125 (arg4.view.readAt (Elt Ideal) (Rect.unit (s := S32768x128) (k0_off5 k 768#32) S256x128.size (k0_off5_inb k 3)).toLoadRect X_arg4) (arg9.view.readAt (Elt Ideal) (Rect.unit (s := S256x256) (k0_off6 k 6#32 0#32) S1x256.size (k0_off6_inb k 3 0)).toLoadRect X_arg9)) (arg9.view.readAt (Elt Ideal) (Rect.unit (s := S256x256) (k0_off6 k 6#32 1#32) S1x256.size (k0_off6_inb k 3 1)).toLoadRect X_arg9)) := by
  unfold tripR_k0_t2 trip_k0_t2; dsimp only; rfl

/-- One trip's stores into the matrix of scores: four blocks of rows. -/
theorem tripL1 : (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg0 v125 v154 v155 X_arg4 X_arg5 X_arg9 k acc f_arg8 f_arg11).1 = [⟨Rect.unit (s := S32768x256) (k0_off3 k 768#32) S256x256.size (k0_off3_inb k 3), (shapeCast S256x256 (k0_pay8 (k0_pay6 v125 (arg4.view.readAt (Elt Ideal) (Rect.unit (s := S32768x128) (k0_off5 k 768#32) S256x128.size (k0_off5_inb k 3)).toLoadRect X_arg4)) (k0_pay7 v125 (arg4.view.readAt (Elt Ideal) (Rect.unit (s := S32768x128) (k0_off5 k 768#32) S256x128.size (k0_off5_inb k 3)).toLoadRect X_arg4) (arg9.view.readAt (Elt Ideal) (Rect.unit (s := S256x256) (k0_off6 k 6#32 0#32) S1x256.size (k0_off6_inb k 3 0)).toLoadRect X_arg9)) (arg9.view.readAt (Elt Ideal) (Rect.unit (s := S256x256) (k0_off6 k 6#32 1#32) S1x256.size (k0_off6_inb k 3 1)).toLoadRect X_arg9)) shapeCasts_S256x256_S256x256)⟩,
    ⟨Rect.unit (s := S32768x256) (k0_off3 k 512#32) S256x256.size (k0_off3_inb k 2), (shapeCast S256x256 (k0_pay8 (k0_pay6 v125 (arg4.view.readAt (Elt Ideal) (Rect.unit (s := S32768x128) (k0_off5 k 512#32) S256x128.size (k0_off5_inb k 2)).toLoadRect X_arg4)) (k0_pay7 v125 (arg4.view.readAt (Elt Ideal) (Rect.unit (s := S32768x128) (k0_off5 k 512#32) S256x128.size (k0_off5_inb k 2)).toLoadRect X_arg4) (arg9.view.readAt (Elt Ideal) (Rect.unit (s := S256x256) (k0_off6 k 4#32 0#32) S1x256.size (k0_off6_inb k 2 0)).toLoadRect X_arg9)) (arg9.view.readAt (Elt Ideal) (Rect.unit (s := S256x256) (k0_off6 k 4#32 1#32) S1x256.size (k0_off6_inb k 2 1)).toLoadRect X_arg9)) shapeCasts_S256x256_S256x256)⟩,
    ⟨Rect.unit (s := S32768x256) (k0_off3 k 256#32) S256x256.size (k0_off3_inb k 1), (shapeCast S256x256 (k0_pay8 (k0_pay6 v125 (arg4.view.readAt (Elt Ideal) (Rect.unit (s := S32768x128) (k0_off5 k 256#32) S256x128.size (k0_off5_inb k 1)).toLoadRect X_arg4)) (k0_pay7 v125 (arg4.view.readAt (Elt Ideal) (Rect.unit (s := S32768x128) (k0_off5 k 256#32) S256x128.size (k0_off5_inb k 1)).toLoadRect X_arg4) (arg9.view.readAt (Elt Ideal) (Rect.unit (s := S256x256) (k0_off6 k 2#32 0#32) S1x256.size (k0_off6_inb k 1 0)).toLoadRect X_arg9)) (arg9.view.readAt (Elt Ideal) (Rect.unit (s := S256x256) (k0_off6 k 2#32 1#32) S1x256.size (k0_off6_inb k 1 1)).toLoadRect X_arg9)) shapeCasts_S256x256_S256x256)⟩,
    ⟨Rect.unit (s := S32768x256) (k0_off3 k 0#32) S256x256.size (k0_off3_inb k 0), (shapeCast S256x256 (k0_pay8 (k0_pay6 v125 (arg4.view.readAt (Elt Ideal) (Rect.unit (s := S32768x128) (k0_off5 k 0#32) S256x128.size (k0_off5_inb k 0)).toLoadRect X_arg4)) (k0_pay7 v125 (arg4.view.readAt (Elt Ideal) (Rect.unit (s := S32768x128) (k0_off5 k 0#32) S256x128.size (k0_off5_inb k 0)).toLoadRect X_arg4) (arg9.view.readAt (Elt Ideal) (Rect.unit (s := S256x256) (k0_off6 k 0#32 0#32) S1x256.size (k0_off6_inb k 0 0)).toLoadRect X_arg9)) (arg9.view.readAt (Elt Ideal) (Rect.unit (s := S256x256) (k0_off6 k 0#32 1#32) S1x256.size (k0_off6_inb k 0 1)).toLoadRect X_arg9)) shapeCasts_S256x256_S256x256)⟩] := by
  unfold tripL_k0_t2 trip_k0_t2; dsimp only; rfl

/-- One trip's last store into the accumulator: the four products added. -/
theorem tripL2 (f : arg11.view.ty.Contents (Elt Ideal)) : arg11.view.read (Elt Ideal) (arg11.view.writes (Elt Ideal) f (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg0 v125 v154 v155 X_arg4 X_arg5 X_arg9 k acc f_arg8 f_arg11).2) = (k0_pay5 (k0_pay41 v154 v155) (arg8.view.readAt (Elt Ideal) (Rect.unit (s := S32768x256) (k0_off3 k 768#32) S256x256.size (k0_off3_inb k 3)).toLoadRect f_arg8) (k0_pay5 (k0_pay41 v154 v155) (arg8.view.readAt (Elt Ideal) (Rect.unit (s := S32768x256) (k0_off3 k 512#32) S256x256.size (k0_off3_inb k 2)).toLoadRect f_arg8) (k0_pay5 (k0_pay41 v154 v155) (arg8.view.readAt (Elt Ideal) (Rect.unit (s := S32768x256) (k0_off3 k 256#32) S256x256.size (k0_off3_inb k 1)).toLoadRect f_arg8) (k0_pay5 (k0_pay41 v154 v155) (arg8.view.readAt (Elt Ideal) (Rect.unit (s := S32768x256) (k0_off3 k 0#32) S256x256.size (k0_off3_inb k 0)).toLoadRect f_arg8) (arg11.view.read (Elt Ideal) f_arg11) (arg5.view.readAt (Elt Ideal) (Rect.unit (s := S64x32768) (k0_off4 k 0#32) S64x256.size (k0_off4_inb k 0)).toLoadRect X_arg5)) (arg5.view.readAt (Elt Ideal) (Rect.unit (s := S64x32768) (k0_off4 k 256#32) S64x256.size (k0_off4_inb k 1)).toLoadRect X_arg5)) (arg5.view.readAt (Elt Ideal) (Rect.unit (s := S64x32768) (k0_off4 k 512#32) S64x256.size (k0_off4_inb k 2)).toLoadRect X_arg5)) (arg5.view.readAt (Elt Ideal) (Rect.unit (s := S64x32768) (k0_off4 k 768#32) S64x256.size (k0_off4_inb k 3)).toLoadRect X_arg5)) := by
  unfold tripL_k0_t2 trip_k0_t2; dsimp only
  refine (View.read_writes_full arg11.view f (off := ![0, 0]) inb_S64x256_S64x256_0_0 _ _).trans ?_
  have e0 := View.readAt_full arg11.view f_arg11 (off := ![0, 0]) inb_S64x256_S64x256_0_0
  have e1 : trip_k0_t2.sl.v263 arg5 arg8 arg11 v154 v155 X_arg5 k f_arg8 f_arg11 = trip_k0_t2.sl.v221 arg5 arg8 arg11 v154 v155 X_arg5 k f_arg8 f_arg11 :=
    View.readCov_full arg11.view inb_S64x256_S64x256_0_0 inb_S64x256_S64x256_0_0 _ _
  have e2 : trip_k0_t2.sl.v312 arg5 arg8 arg11 v154 v155 X_arg5 k f_arg8 f_arg11 = trip_k0_t2.sl.v270 arg5 arg8 arg11 v154 v155 X_arg5 k f_arg8 f_arg11 :=
    View.readCov_full arg11.view inb_S64x256_S64x256_0_0 inb_S64x256_S64x256_0_0 _ _
  have e3 : trip_k0_t2.sl.v361 arg5 arg8 arg11 v154 v155 X_arg5 k f_arg8 f_arg11 = trip_k0_t2.sl.v319 arg5 arg8 arg11 v154 v155 X_arg5 k f_arg8 f_arg11 :=
    View.readCov_full arg11.view inb_S64x256_S64x256_0_0 inb_S64x256_S64x256_0_0 _ _
  rw [← e0]
  have f0 : trip_k0_t2.sl.v221 arg5 arg8 arg11 v154 v155 X_arg5 k f_arg8 f_arg11 = k0_pay5 (k0_pay41 v154 v155) (arg8.view.readAt (Elt Ideal) (Rect.unit (s := S32768x256) (k0_off3 k 0#32) S256x256.size (k0_off3_inb k 0)).toLoadRect f_arg8) (View.readAt (Elt Ideal) arg11.view (Rect.unit (s := S64x256) ![0, 0] S64x256.size inb_S64x256_S64x256_0_0).toLoadRect f_arg11) (arg5.view.readAt (Elt Ideal) (Rect.unit (s := S64x32768) (k0_off4 k 0#32) S64x256.size (k0_off4_inb k 0)).toLoadRect X_arg5) := rfl
  have f1 : trip_k0_t2.sl.v270 arg5 arg8 arg11 v154 v155 X_arg5 k f_arg8 f_arg11 = k0_pay5 (k0_pay41 v154 v155) (arg8.view.readAt (Elt Ideal) (Rect.unit (s := S32768x256) (k0_off3 k 256#32) S256x256.size (k0_off3_inb k 1)).toLoadRect f_arg8) (trip_k0_t2.sl.v263 arg5 arg8 arg11 v154 v155 X_arg5 k f_arg8 f_arg11) (arg5.view.readAt (Elt Ideal) (Rect.unit (s := S64x32768) (k0_off4 k 256#32) S64x256.size (k0_off4_inb k 1)).toLoadRect X_arg5) := rfl
  have f2 : trip_k0_t2.sl.v319 arg5 arg8 arg11 v154 v155 X_arg5 k f_arg8 f_arg11 = k0_pay5 (k0_pay41 v154 v155) (arg8.view.readAt (Elt Ideal) (Rect.unit (s := S32768x256) (k0_off3 k 512#32) S256x256.size (k0_off3_inb k 2)).toLoadRect f_arg8) (trip_k0_t2.sl.v312 arg5 arg8 arg11 v154 v155 X_arg5 k f_arg8 f_arg11) (arg5.view.readAt (Elt Ideal) (Rect.unit (s := S64x32768) (k0_off4 k 512#32) S64x256.size (k0_off4_inb k 2)).toLoadRect X_arg5) := rfl
  have f3 : trip_k0_t2.sl.v368 arg5 arg8 arg11 v154 v155 X_arg5 k f_arg8 f_arg11 = k0_pay5 (k0_pay41 v154 v155) (arg8.view.readAt (Elt Ideal) (Rect.unit (s := S32768x256) (k0_off3 k 768#32) S256x256.size (k0_off3_inb k 3)).toLoadRect f_arg8) (trip_k0_t2.sl.v361 arg5 arg8 arg11 v154 v155 X_arg5 k f_arg8 f_arg11) (arg5.view.readAt (Elt Ideal) (Rect.unit (s := S64x32768) (k0_off4 k 768#32) S64x256.size (k0_off4_inb k 3)).toLoadRect X_arg5) := rfl
  rw [f3, e3, f2, e2, f1, e1, f0]

/-! ### The same by elements -/

/-- A block of rows of the matrix of scores, as the trip loads it. -/
theorem hS (b : Fin 4) (y : S256x256.Idx) :
    arg8.view.readAt (Elt Ideal) (Rect.unit (s := S32768x256) (k0_off3 k (BitVec.ofNat 32 (256 * b.val))) S256x256.size (k0_off3_inb k b)).toLoadRect f_arg8 y
      = at2 (arg8.view.read (Elt Ideal) f_arg8) ((1024 * k.val + 256 * b.val) + (y 0).val) (y 1).val := by
  rw [readAt_f32 arg8.view f_arg8 _ _ _ (k0_off3_eq k b) y, Nat.zero_add]

/-- A block of columns of the value codes, as the trip loads it. -/
theorem hT (b : Fin 4) (y : S64x256.Idx) :
    arg5.view.readAt (Elt Ideal) (Rect.unit (s := S64x32768) (k0_off4 k (BitVec.ofNat 32 (256 * b.val))) S64x256.size (k0_off4_inb k b)).toLoadRect X_arg5 y
      = at2 (arg5.view.read (Elt Ideal) X_arg5) (y 0).val ((1024 * k.val + 256 * b.val) + (y 1).val) := by
  rw [readAt_f8 arg5.view X_arg5 _ _ _ (k0_off4_eq k b) y, Nat.zero_add]

/-- A block of rows of the key codes, as the trip loads it. -/
theorem hK (b : Fin 4) (y : S256x128.Idx) :
    arg4.view.readAt (Elt Ideal) (Rect.unit (s := S32768x128) (k0_off5 k (BitVec.ofNat 32 (256 * b.val))) S256x128.size (k0_off5_inb k b)).toLoadRect X_arg4 y
      = at2 (arg4.view.read (Elt Ideal) X_arg4) (128 * (8 * k.val + 2 * b.val) + (y 0).val) (y 1).val := by
  rw [readAt_f8 arg4.view X_arg4 _ _ _ (k0_off5_eq k b) y, Nat.zero_add]
  congr 1; omega

/-- A row of the factors, as the trip loads it. -/
theorem hC (b : Fin 4) (i : Fin 2) (y : S1x256.Idx) :
    arg9.view.readAt (Elt Ideal) (Rect.unit (s := S256x256) (k0_off6 k (BitVec.ofNat 32 (2 * b.val)) (BitVec.ofNat 32 i.val)) S1x256.size (k0_off6_inb k b i)).toLoadRect X_arg9 y
      = at2 (arg9.view.read (Elt Ideal) X_arg9) ((8 * k.val + 2 * b.val) + i.val + (y 0).val) (y 1).val := by
  rw [readAt_f32 arg9.view X_arg9 _ _ _ (k0_off6_eq k b i) y, Nat.zero_add]

/-- The row sums after a trip. -/
theorem trip_sum (y : S8x256.Idx) : (tripR_k0_t2 (F := Ideal) 𝒱 c bd i arg1 harg1 arg2 harg2 arg3 harg3 arg4 harg4 arg5 harg5 arg6 harg6 arg7 harg7 arg8 harg8 arg9 harg9 arg10 harg10 arg11 harg11 arg12 harg12 arg0 v125 v154 v155 X_arg4 X_arg5 X_arg9 k acc f_arg8 f_arg11).1 y = acc.1 y
    + (∑ b : Fin 4, ∑ x : Fin 32, scP (arg8.view.read (Elt Ideal) f_arg8) (k0_pay41 v154 v155) (1024 * k.val + 256 * b.val + (x.val * 8 + (y 0).val)) (y 1).val) := by
  rw [tripR1]
  refine (pay4_apply _ _ _ _ _ (hS arg8 k f_arg8 3) y).trans ?_
  refine (congrArg (· + _) (pay4_apply _ _ _ _ _ (hS arg8 k f_arg8 2) y)).trans ?_
  refine (congrArg (· + _ + _) (pay4_apply _ _ _ _ _ (hS arg8 k f_arg8 1) y)).trans ?_
  refine (congrArg (· + _ + _ + _) (pay4_apply _ _ _ _ _ (hS arg8 k f_arg8 0) y)).trans ?_
  rw [Fin.sum_univ_four]
  simp only [add_assoc]

/-- The accumulator after a trip. -/
theorem trip_acc (f : arg11.view.ty.Contents (Elt Ideal)) (y : S64x256.Idx) :
    arg11.view.read (Elt Ideal) (arg11.view.writes (Elt Ideal) f (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg0 v125 v154 v155 X_arg4 X_arg5 X_arg9 k acc f_arg8 f_arg11).2) y = arg11.view.read (Elt Ideal) f_arg11 y
    + (∑ b : Fin 4, ∑ x : Fin 256, at2 (arg5.view.read (Elt Ideal) X_arg5) (y 0).val (1024 * k.val + 256 * b.val + x.val)
        * scC (scP (arg8.view.read (Elt Ideal) f_arg8) (k0_pay41 v154 v155) (1024 * k.val + 256 * b.val + x.val) (y 1).val)) := by
  rw [tripL2]
  refine (pay5_apply _ _ _ _ _ _ _ (hS arg8 k f_arg8 3) (hT arg5 X_arg5 k 3) y).trans ?_
  refine (congrArg (· + _) (pay5_apply _ _ _ _ _ _ _ (hS arg8 k f_arg8 2) (hT arg5 X_arg5 k 2) y)).trans ?_
  refine (congrArg (· + _ + _) (pay5_apply _ _ _ _ _ _ _ (hS arg8 k f_arg8 1) (hT arg5 X_arg5 k 1) y)).trans ?_
  refine (congrArg (· + _ + _ + _) (pay5_apply _ _ _ _ _ _ _ (hS arg8 k f_arg8 0) (hT arg5 X_arg5 k 0) y)).trans ?_
  rw [Fin.sum_univ_four]
  simp only [add_assoc]

/-- The row maxima after a trip, by their upper bounds. -/
theorem trip_max (y : S8x256.Idx) (z : EReal) : (tripR_k0_t2 (F := Ideal) 𝒱 c bd i arg1 harg1 arg2 harg2 arg3 harg3 arg4 harg4 arg5 harg5 arg6 harg6 arg7 harg7 arg8 harg8 arg9 harg9 arg10 harg10 arg11 harg11 arg12 harg12 arg0 v125 v154 v155 X_arg4 X_arg5 X_arg9 k acc f_arg8 f_arg11).2 y ≤ z ↔ acc.2 y ≤ z
    ∧ ∀ (b : Fin 4) (x : Fin 32), scU (arg4.view.read (Elt Ideal) X_arg4) v125 (arg9.view.read (Elt Ideal) X_arg9) (1024 * k.val + 256 * b.val + (x.val * 8 + (y 0).val)) (y 1).val ≤ z := by
  rw [tripR2]
  refine (pay9_le _ _ _ _ _ _ _ _ (hK arg4 X_arg4 k 3) (hC arg9 X_arg9 k 3 0) (hC arg9 X_arg9 k 3 1) y z).trans ?_
  refine (and_congr_left' (pay9_le _ _ _ _ _ _ _ _ (hK arg4 X_arg4 k 2) (hC arg9 X_arg9 k 2 0) (hC arg9 X_arg9 k 2 1) y z)).trans ?_
  refine (and_congr_left' (and_congr_left' (pay9_le _ _ _ _ _ _ _ _ (hK arg4 X_arg4 k 1) (hC arg9 X_arg9 k 1 0) (hC arg9 X_arg9 k 1 1) y z))).trans ?_
  refine (and_congr_left' (and_congr_left' (and_congr_left' (pay9_le _ _ _ _ _ _ _ _ (hK arg4 X_arg4 k 0) (hC arg9 X_arg9 k 0 0) (hC arg9 X_arg9 k 0 1) y z)))).trans ?_
  simp only [show ∀ b : ℕ, 128 * (8 * k.val + 2 * b) = 1024 * k.val + 256 * b from fun b => by omega, and_assoc]
  refine and_congr_right fun _ => ⟨fun ⟨h0, h1, h2, h3⟩ b => ?_, fun h => ⟨h 0, h 1, h 2, h 3⟩⟩
  match b with
  | 0 => exact h0
  | 1 => exact h1
  | 2 => exact h2
  | 3 => exact h3

/-- The stored scores after a trip: the trip's 1024 rows are new, the others as before. -/
theorem trip_scores (y : S32768x256.Idx) :
    arg8.view.read (Elt Ideal) (arg8.view.writes (Elt Ideal) f_arg8 (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg0 v125 v154 v155 X_arg4 X_arg5 X_arg9 k acc f_arg8 f_arg11).1) y
      = if 1024 * k.val ≤ (y 0).val ∧ (y 0).val < 1024 * k.val + 1024 then
          scU (arg4.view.read (Elt Ideal) X_arg4) v125 (arg9.view.read (Elt Ideal) X_arg9) (y 0).val (y 1).val
        else arg8.view.read (Elt Ideal) f_arg8 y := by
  rw [tripL1]
  have hw : ∀ (b : Fin 4) (x : S256x256.Idx) (kb : Vec Ideal S256x128 .fp8e4m3) (c0 c1 : Vec Ideal S1x256 .f32),
      (∀ y : S256x128.Idx, kb y = at2 (arg4.view.read (Elt Ideal) X_arg4) (128 * (8 * k.val + 2 * b.val) + (y 0).val) (y 1).val) →
      (∀ y : S1x256.Idx, c0 y = at2 (arg9.view.read (Elt Ideal) X_arg9) ((8 * k.val + 2 * b.val) + 0 + (y 0).val) (y 1).val) →
      (∀ y : S1x256.Idx, c1 y = at2 (arg9.view.read (Elt Ideal) X_arg9) ((8 * k.val + 2 * b.val) + 1 + (y 0).val) (y 1).val) →
      shapeCast S256x256 (k0_pay8 (k0_pay6 v125 kb) (k0_pay7 v125 kb c0) c1) shapeCasts_S256x256_S256x256 x
        = scU (arg4.view.read (Elt Ideal) X_arg4) v125 (arg9.view.read (Elt Ideal) X_arg9) (1024 * k.val + 256 * b.val + (x 0).val) (x 1).val := by
    intro b x kb c0 c1 hk h0 h1
    rw [shapeCast_self, pay8_apply _ _ _ _ _ _ _ hk h0 h1]
    congr 1; omega
  refine (rows_step _ _ _ _ _ y _ (scU (arg4.view.read (Elt Ideal) X_arg4) v125 (arg9.view.read (Elt Ideal) X_arg9)) (k0_off3_eq k 3)
    (fun x => hw 3 x _ _ _ (hK arg4 X_arg4 k 3) (hC arg9 X_arg9 k 3 0) (hC arg9 X_arg9 k 3 1))).trans ?_
  split
  · rw [if_pos (by have : ((3 : Fin 4) : ℕ) = 3 := rfl; have : ((2 : Fin 4) : ℕ) = 2 := rfl; have : ((1 : Fin 4) : ℕ) = 1 := rfl; omega)]
  rename_i h3
  refine (rows_step _ _ _ _ _ y _ (scU (arg4.view.read (Elt Ideal) X_arg4) v125 (arg9.view.read (Elt Ideal) X_arg9)) (k0_off3_eq k 2)
    (fun x => hw 2 x _ _ _ (hK arg4 X_arg4 k 2) (hC arg9 X_arg9 k 2 0) (hC arg9 X_arg9 k 2 1))).trans ?_
  split
  · rw [if_pos (by have : ((3 : Fin 4) : ℕ) = 3 := rfl; have : ((2 : Fin 4) : ℕ) = 2 := rfl; have : ((1 : Fin 4) : ℕ) = 1 := rfl; omega)]
  rename_i h2
  refine (rows_step _ _ _ _ _ y _ (scU (arg4.view.read (Elt Ideal) X_arg4) v125 (arg9.view.read (Elt Ideal) X_arg9)) (k0_off3_eq k 1)
    (fun x => hw 1 x _ _ _ (hK arg4 X_arg4 k 1) (hC arg9 X_arg9 k 1 0) (hC arg9 X_arg9 k 1 1))).trans ?_
  split
  · rw [if_pos (by have : ((3 : Fin 4) : ℕ) = 3 := rfl; have : ((2 : Fin 4) : ℕ) = 2 := rfl; have : ((1 : Fin 4) : ℕ) = 1 := rfl; omega)]
  rename_i h1
  refine (rows_step _ _ _ _ _ y _ (scU (arg4.view.read (Elt Ideal) X_arg4) v125 (arg9.view.read (Elt Ideal) X_arg9)) (k0_off3_eq k 0)
    (fun x => hw 0 x _ _ _ (hK arg4 X_arg4 k 0) (hC arg9 X_arg9 k 0 0) (hC arg9 X_arg9 k 0 1))).trans ?_
  have v3 : ((3 : Fin 4) : ℕ) = 3 := rfl
  have v2 : ((2 : Fin 4) : ℕ) = 2 := rfl
  have v1 : ((1 : Fin 4) : ℕ) = 1 := rfl
  have v0 : ((0 : Fin 4) : ℕ) = 0 := rfl
  rw [v3] at h3; rw [v2] at h2; rw [v1] at h1; rw [v0]
  split
  · rw [if_pos (by omega)]
  · rw [if_neg (by omega)]; rfl
end Trip

end Cert.KernelIdeal.Val

end
-- ==== Proof.Ideal.Sums.lean ====
/- Sums over a range of naturals cut in blocks. -/
module

public import Mathlib.Algebra.BigOperators.Fin
public import Mathlib.Algebra.BigOperators.Intervals

@[expose] public section

namespace Cert.Sums

variable {M : Type*} [AddCommMonoid M]

/-- A range of 1024 more is four blocks of 256. -/
theorem range_add_1024 (N : ℕ) (g : ℕ → M) :
    ∑ n ∈ Finset.range (N + 1024), g n = ∑ n ∈ Finset.range N, g n + ∑ b : Fin 4, ∑ x : Fin 256, g (N + 256 * b.val + x.val) := by
  rw [Finset.sum_range_add]
  congr 1
  rw [Fin.sum_univ_four]
  rw [show (1024 : ℕ) = 256 + 256 + 256 + 256 from rfl]
  rw [Finset.sum_range_add, Finset.sum_range_add, Finset.sum_range_add]
  simp only [Finset.sum_range]
  simp only [← Nat.add_assoc, Nat.mul_zero, Nat.add_zero]
  rfl

/-- A range of `8 m` is `m` groups of eight. -/
theorem range_mul_eight (m : ℕ) (g : ℕ → M) :
    ∑ n ∈ Finset.range (m * 8), g n = ∑ x ∈ Finset.range m, ∑ c ∈ Finset.range 8, g (x * 8 + c) := by
  induction m with
  | zero => simp
  | succ m ih => rw [Nat.succ_mul, Finset.sum_range_add, ih, Finset.sum_range_succ (fun x => ∑ c ∈ Finset.range 8, g (x * 8 + c))]

/-- Of 256 terms from a multiple of eight on, those whose position is `a` modulo eight. -/
theorem block_mod_eight (N : ℕ) (hN : N % 8 = 0) (a : ℕ) (ha : a < 8) (h : ℕ → M) :
    ∑ x : Fin 256, (if (N + x.val) % 8 = a then h (N + x.val) else 0) = ∑ x : Fin 32, h (N + (x.val * 8 + a)) := by
  rw [← Finset.sum_range (fun x => if (N + x) % 8 = a then h (N + x) else 0), show (256 : ℕ) = 32 * 8 from rfl, range_mul_eight, Finset.sum_range]
  refine Finset.sum_congr rfl fun x _ => ?_
  rw [Finset.sum_eq_single a]
  · rw [if_pos (by omega)]
  · intro c hc hca
    rw [Finset.mem_range] at hc
    rw [if_neg (by omega)]
  · intro hh; exact absurd (Finset.mem_range.mpr ha) hh

/-- The eight classes modulo eight together are everything. -/
theorem classes (N : ℕ) (h : ℕ → M) :
    ∑ a : Fin 8, ∑ n ∈ Finset.range N, (if n % 8 = a.val then h n else 0) = ∑ n ∈ Finset.range N, h n := by
  rw [Finset.sum_comm]
  refine Finset.sum_congr rfl fun n _ => ?_
  rw [Finset.sum_eq_single (⟨n % 8, by omega⟩ : Fin 8)]
  · simp
  · intro b _ hb
    rw [if_neg]
    intro e; exact hb (Fin.ext e.symm)
  · intro hh; exact absurd (Finset.mem_univ _) hh

end Cert.Sums

end
-- ==== Proof.Ideal.Loop.lean ====
/- The main loop: what it leaves after `k` trips. -/
module

public import proofs.«01_k».proof.Proof.Ideal.Trip
public import proofs.«01_k».proof.Proof.Ideal.Sums

@[expose] public section

set_option maxRecDepth 16384

noncomputable section

namespace Cert.KernelIdeal.Val

open Idealize.ShloMosaic Idealize.ShloMosaic.TcCoe Idealize.ShloMosaic.Tactic
open Cert.KernelIdeal.Gen

/-- Two matrices that agree at a place have the same entry there. -/
theorem at2_congr {R C : ℕ} (x x' : (⟨2, ![R, C]⟩ : Shape).Idx → EReal) (r c : ℕ)
    (h : ∀ y : (⟨2, ![R, C]⟩ : Shape).Idx, (y 0).val = r → x y = x' y) : at2 x r c = at2 x' r c := by
  unfold at2; split
  · exact h _ rfl
  · rfl

section Loop
variable (𝒱 : Variants) (c : Dev nD) (bd : Option 𝒱.V) (i : grid0.Coords) (arg1 : Memref sig .tc .smem S8192 .f32) (harg1 : arg1.IsWhole) (arg2 : Memref sig .tc .vmem S1x256x128 .f32) (harg2 : arg2.IsWhole) (arg3 : Memref sig .tc .vmem S256x128 .fp8e4m3) (harg3 : arg3.IsWhole) (arg4 : Memref sig .tc .vmem S32768x128 .fp8e4m3) (harg4 : arg4.IsWhole) (arg5 : Memref sig .tc .vmem S64x32768 .fp8e4m3) (harg5 : arg5.IsWhole) (arg6 : Memref sig .tc .vmem S1x1x256 .f32) (harg6 : arg6.IsWhole) (arg7 : Memref sig .tc .vmem S256x256 .bf16) (harg7 : arg7.IsWhole) (arg8 : Memref sig .tc .vmem S32768x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S64x256 .f32) (harg11 : arg11.IsWhole) (arg12 : Memref sig .tc .vmem S256x256 .f32) (harg12 : arg12.IsWhole) (arg0 : BitVec 32) (v125 : FVec Ideal S256x128 .fp8e4m3) (v154 : Vec Ideal S1x256 .f32) (v155 : FVec Ideal S1x256 .f32) (X_arg4 : BufTy.Contents (Elt Ideal) arg4.view.ty) (X_arg5 : BufTy.Contents (Elt Ideal) arg5.view.ty) (X_arg9 : BufTy.Contents (Elt Ideal) arg9.view.ty) (G_arg8 : BufTy.Contents (Elt Ideal) arg8.view.ty) (G_arg11 : BufTy.Contents (Elt Ideal) arg11.view.ty) (init : FVec Ideal S8x256 .f32 × FVec Ideal S8x256 .f32)

/-- What holds after `k` trips, from zero sums, `-∞` maxima and a zero accumulator. -/
theorem loop_inv (h1 : ∀ y, init.1 y = 0) (h2 : ∀ y, init.2 y = ⊥) (h11 : ∀ y, arg11.view.read (Elt Ideal) G_arg11 y = 0) :
    ∀ k : ℕ, k ≤ 32 →
      (∀ y, (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg0 v125 v154 v155 X_arg4 X_arg5 X_arg9 G_arg8 G_arg11 init k).1.1 y = ∑ n ∈ Finset.range (1024 * k), (if n % 8 = (y 0).val then scP (arg8.view.read (Elt Ideal) G_arg8) (k0_pay41 v154 v155) n (y 1).val else 0))
      ∧ (∀ y z, (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg0 v125 v154 v155 X_arg4 X_arg5 X_arg9 G_arg8 G_arg11 init k).1.2 y ≤ z ↔ ∀ n, n < 1024 * k → n % 8 = (y 0).val → scU (arg4.view.read (Elt Ideal) X_arg4) v125 (arg9.view.read (Elt Ideal) X_arg9) n (y 1).val ≤ z)
      ∧ (∀ y, arg8.view.read (Elt Ideal) (arg8.view.writes (Elt Ideal) G_arg8 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg0 v125 v154 v155 X_arg4 X_arg5 X_arg9 G_arg8 G_arg11 init k).2.1) y
          = if (y 0).val < 1024 * k then scU (arg4.view.read (Elt Ideal) X_arg4) v125 (arg9.view.read (Elt Ideal) X_arg9) (y 0).val (y 1).val else arg8.view.read (Elt Ideal) G_arg8 y)
      ∧ (∀ y, arg11.view.read (Elt Ideal) (arg11.view.writes (Elt Ideal) G_arg11 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg0 v125 v154 v155 X_arg4 X_arg5 X_arg9 G_arg8 G_arg11 init k).2.2) y
          = ∑ n ∈ Finset.range (1024 * k), at2 (arg5.view.read (Elt Ideal) X_arg5) (y 0).val n * scC (scP (arg8.view.read (Elt Ideal) G_arg8) (k0_pay41 v154 v155) n (y 1).val)) := by
  intro k
  induction k with
  | zero =>
    intro _
    refine ⟨fun y => ?_, fun y z => ?_, fun y => ?_, fun y => ?_⟩
    · rw [Nat.mul_zero, Finset.range_zero, Finset.sum_empty]; exact h1 y
    · refine ⟨fun _ n hn => absurd hn (by omega), fun _ => ?_⟩
      show init.2 y ≤ z
      rw [h2]; exact bot_le
    · rw [if_neg (by omega)]; rfl
    · rw [Nat.mul_zero, Finset.range_zero, Finset.sum_empty]; exact h11 y
  | succ k ih =>
    intro hk
    obtain ⟨i1, i2, i3, i4⟩ := ih (by omega)
    have hk' : k < k0_t2_loop.trips := lt_of_lt_of_eq (show k < 32 by omega) (by decide +kernel)
    have hs := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg0 v125 v154 v155 X_arg4 X_arg5 X_arg9 G_arg8 G_arg11 init ⟨k, hk'⟩
    simp only at hs
    rw [hs]
    clear hs
    generalize (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg0 v125 v154 v155 X_arg4 X_arg5 X_arg9 G_arg8 G_arg11 init k) = s at i1 i2 i3 i4 ⊢
    have hold : ∀ n j, 1024 * k ≤ n → scP (arg8.view.read (Elt Ideal) (arg8.view.writes (Elt Ideal) G_arg8 s.2.1)) (k0_pay41 v154 v155) n j
        = scP (arg8.view.read (Elt Ideal) G_arg8) (k0_pay41 v154 v155) n j := by
      intro n j hn
      unfold scP
      rw [at2_congr _ (arg8.view.read (Elt Ideal) G_arg8) n j (fun y hy => by rw [i3, if_neg (by omega)])]
    have e1024 : 1024 * (k + 1) = 1024 * k + 1024 := by omega
    refine ⟨fun y => ?_, fun y z => ?_, fun y => ?_, fun y => ?_⟩
    · rw [trip_sum, i1, e1024, Cert.Sums.range_add_1024]
      refine congrArg (_ + ·) ?_
      refine Finset.sum_congr rfl fun b _ => ?_
      rw [Cert.Sums.block_mod_eight (1024 * k + 256 * b.val) (by omega) (y 0).val (y 0).isLt (fun n => scP (arg8.view.read (Elt Ideal) G_arg8) (k0_pay41 v154 v155) n (y 1).val)]
      refine Finset.sum_congr rfl fun x _ => ?_
      exact hold _ _ (by dsimp only; omega)
    · rw [trip_max, i2]
      constructor
      · rintro ⟨a, b⟩ n hn hm
        by_cases hlt : n < 1024 * k
        · exact a n hlt hm
        · have := b ⟨(n - 1024 * k) / 256, by omega⟩ ⟨(n - 1024 * k) % 256 / 8, by omega⟩
          dsimp only at this
          rwa [show 1024 * k + 256 * ((n - 1024 * k) / 256) + ((n - 1024 * k) % 256 / 8 * 8 + (y 0).val) = n by omega] at this
      · intro h
        have hy : (y 0).val < 8 := (y 0).isLt
        refine ⟨fun n hn hm => h n (by omega) hm, fun b x => h _ ?_ ?_⟩
        · dsimp only; omega
        · dsimp only; omega
    · rw [View.writes_append, trip_scores, i3]
      dsimp only
      split_ifs <;> first | rfl | omega
    · rw [View.writes_append, trip_acc, i4, e1024, Cert.Sums.range_add_1024]
      refine congrArg (_ + ·) ?_
      refine Finset.sum_congr rfl fun b _ => Finset.sum_congr rfl fun x _ => ?_
      dsimp only
      rw [hold _ _ (by omega)]

end Loop

end Cert.KernelIdeal.Val

end
-- ==== Proof.Ideal.Tail.lean ====
/- What is done with the loop's results: the maxima and sums over the eight row classes, the division, the group's output block; and the
   factors of the scores. -/
module

public import proofs.«01_k».proof.Proof.Ideal.Ops

@[expose] public section

set_option maxRecDepth 16384

noncomputable section

namespace Cert.KernelIdeal.Val

open Idealize.ShloMosaic Idealize.ShloMosaic.TcCoe Idealize.ShloMosaic.Tactic
open Cert.KernelIdeal.Gen

/-- The row maximum over the eight classes, by its upper bounds. -/
theorem pay45_le (M : FVec Ideal S8x256 .f32) (y : S1x256.Idx) (z : EReal) :
    k0_pay45 M y ≤ z ↔ ∀ r : Fin 8, M (ix2 r (y 1)) ≤ z := by
  have e : k0_pay45 M y = (Finset.univ : Finset (Fin 8)).fold max ⊥ fun r => M (ix2 r (y 1)) := by
    pointwise [k0_pay45]
    rw [ofBits_neg_inf]
  rw [e, Finset.fold_max_le]
  simp

/-- The row sum over the eight classes, scaled. -/
theorem pay46_apply (S : FVec Ideal S8x256 .f32) (y : S1x256.Idx) :
    k0_pay46 S y = (∑ r : Fin 8, S (ix2 r (y 1))) * Ideal.ofBits .f32 0x3B800000#32 := by
  pointwise [k0_pay46]

/-- The accumulator, scaled. -/
theorem pay47_apply (A : Vec Ideal S64x256 .f32) (y : S64x256.Idx) :
    k0_pay47 A y = A y * Ideal.ofBits .f32 0x3B800000#32 := by
  pointwise [k0_pay47]

/-- The quotient of an accumulator and a row sum. -/
theorem pay1_apply (T : FVec Ideal S1x256 .f32) (A : FVec Ideal S64x256 .f32) (y : S64x256.Idx) :
    k0_pay1 T A y = Ideal.div (A y) (T (ix2 0 (y 1))) := by
  pointwise [k0_pay1]

/-- The result's block: the group's buffer transposed, times the value scales. -/
theorem pay2_apply (O : Vec Ideal S256x256 .f32) (W : Vec Ideal S1x1x256 .f32) (y : S256x256.Idx) :
    k0_pay2 O W y = O (ix2 (y 1) (y 0)) * W (ix3 0 0 (y 1)) := by
  pointwise [k0_pay2]

/-- The factor of a key block for the first 128 queries, -/
theorem pay38_apply (a : Elt Ideal .f32) (X : Vec Ideal S1x256x128 .f32) (y : S256x128.Idx) :
    k0_pay38 a X y = X (ix3 0 (y 0) (y 1)) * (a * Named.named (F := Ideal) (φ := .f32) Cert.KernelIdeal.κ "score_scale" 0x3E38AA3B#32) := by
  pointwise [k0_pay38]

/-- and for the second. -/
theorem pay39_apply (a : Elt Ideal .f32) (X : Vec Ideal S1x256x128 .f32) (y : S256x128.Idx) :
    k0_pay39 a X y = X (ix3 0 (y 0) (y 1)) * (a * Named.named (F := Ideal) (φ := .f32) Cert.KernelIdeal.κ "score_scale" 0x3E38AA3B#32) := by
  pointwise [k0_pay39]

end Cert.KernelIdeal.Val

end
-- ==== Proof.Ideal.QMask.lean ====
/- The query codes masked to one head's half of the lanes. -/
module

public import proofs.«01_k».proof.Proof.Ideal.Words

@[expose] public section

set_option maxRecDepth 16384

noncomputable section

namespace Cert.KernelIdeal.Val

open Idealize.ShloMosaic Idealize.ShloMosaic.TcCoe Idealize.ShloMosaic.Tactic
open Cert.KernelIdeal.Gen Cert.KernelIdeal.Hand

/-- A block of query codes masked to the lanes of key/value head `g`, those of query head `h` brought there if they lie in the other half. -/
def qm (g h : ℕ) (x : S256x128.Idx → EReal) (y : S256x128.Idx) : EReal :=
  if (y 1).val / 64 = g % 2 then at2 x (y 0).val (if h % 2 = g % 2 then (y 1).val else ((y 1).val + 64) % 128) else 0

/-- Whether the query head and the key head lie in the same half of their pairs, as the body decides it, for every grid point. -/
theorem same_at : ∀ n : Fin 4097, (Scalar.cmpi CmpIPredicate.eq (w71 (point n))
          (Scalar.select
            (Scalar.andi
              (Scalar.xori (Scalar.cmpi CmpIPredicate.slt (w74 (point n)) 0#32) (Scalar.cmpi CmpIPredicate.slt 2#32 0#32)) (w75 (point n)))
            (Scalar.addi (w74 (point n)) 2#32) (w74 (point n)))) = if hOf n.val % 2 = gOf n.val % 2 then 1#1 else 0#1 := by decide +kernel

/-- Which half a lane lies in, as the body decides it, along one row, -/
theorem half_at : ∀ d : Fin 128, ∀ b : Fin 2, (IntOp.cmpi CmpIPredicate.eq (k0_pay36 (ix2 0 d)) (BitVec.ofNat 32 b.val)) = if d.val / 64 = b.val then 1#1 else 0#1 := by
  decide +kernel

/-- and in every row alike. -/
theorem half_row (y : S256x128.Idx) : k0_pay36 y = k0_pay36 (ix2 0 (y 1)) := by
  pointwise [k0_pay36]

/-- The masked query codes at a grid point: the query head's codes in the key head's half of the lanes, zero in the other, for every point, -/
theorem qmask_at (n : Fin 4097) (x : Vec Ideal S256x128 .fp8e4m3) (y : S256x128.Idx) :
    k0_pay37 (k0_pay35 (k0_pay34 x) (w71 (point n)) 2#32 (w74 (point n)) (w75 (point n))) k0_pay36 (w119 (point n)) y = qm (gOf n.val) (hOf n.val) x y := by
  pointwise [k0_pay37, k0_pay35, k0_pay34]
  rw [same_at, w119_at, half_row]
  have := half_at (y 1) ⟨gOf n.val % 2, by omega⟩
  simp only at this
  rw [this]
  unfold qm
  have h1 : (y 1).val < 128 := (y 1).isLt
  split_ifs
  · exact (at2_idx x y).symm
  · exact at2_of x _ _ _ rfl (by show ((y 1).val + 128 - 64) % 128 = _; omega)
  all_goals
    show (((0#32).toInt : ℝ) : EReal) = 0
    norm_num

/-- and so at any coordinates. -/
theorem qmask_apply (i : grid0.Coords) (x : Vec Ideal S256x128 .fp8e4m3) :
    k0_pay37 (k0_pay35 (k0_pay34 x) (w71 i) 2#32 (w74 i) (w75 i)) k0_pay36 (w119 i) = qm (gOf (i 0).val) (hOf (i 0).val) x :=
  funext fun y => qmask_at (i 0) x y
end Cert.KernelIdeal.Val

end
-- ==== Proof.Ideal.Finish.lean ====
/- What the main loop leaves at its end, in terms of its operands' contents; and the stores around it. -/
module

public import proofs.«01_k».proof.Proof.Ideal.Loop
public import proofs.«01_k».proof.Proof.Ideal.Tail
public import proofs.«01_k».proof.Proof.Ideal.QMask

@[expose] public section

set_option maxRecDepth 16384

noncomputable section

namespace Cert.KernelIdeal.Val

open Idealize.ShloMosaic Idealize.ShloMosaic.TcCoe Idealize.ShloMosaic.Tactic
open Cert.KernelIdeal.Gen Cert.KernelIdeal.Hand

/-- The scale of a score: `1 / √64`, in units of `log 2`. -/
def kk : EReal := Named.named (F := Ideal) (φ := .f32) Cert.KernelIdeal.κ "score_scale" 0x3E38AA3B#32

/-- The factor by which the last sums are brought back to the scale of the values. -/
def cst : EReal := Ideal.ofBits .f32 0x3B800000#32

/-- A vector at a natural. -/
def at1 {R : ℕ} (x : (⟨1, ![R]⟩ : Shape).Idx → EReal) (r : ℕ) : EReal := if h : r < R then x (ix1 ⟨r, h⟩) else 0

/-- A vector's entry at an index is its entry at the index's number. -/
theorem at1_of {R : ℕ} (x : (⟨1, ![R]⟩ : Shape).Idx → EReal) (y : (⟨1, ![R]⟩ : Shape).Idx) (r : ℕ) (h : (y 0).val = r) : x y = at1 x r := by
  subst h
  have hR : (y 0).val < R := (y 0).isLt
  unfold at1; rw [dif_pos hR]
  exact congrArg x (funext fun a => match a with | ⟨0, _⟩ => rfl)

/-- A word of the query scales. -/
theorem smem_at {sp : Space} (v : View sig .tc sp S8192 .f32) (f : v.ty.Contents (Elt Ideal)) {off : Fin 1 → ℕ} (inb : ∀ a : Fin 1, off a + S1.size a ≤ S8192.size a)
    (o : ℕ) (h : off = ![o]) (y : S1.Idx) :
    v.readAt (Elt Ideal) (Rect.unit (s := S8192) off S1.size inb).toLoadRect f y = at1 (v.read (Elt Ideal) f) o := by
  subst h
  refine at1_of (v.read (Elt Ideal) f) _ _ ?_
  show o + 1 * (y 0).val = o
  have : (y 0).val < 1 := (y 0).isLt
  omega

/-- The factors of a tile's scores: row `r` is a block of 128 keys, a column is a query. -/
def cm (a b : EReal) (X : S1x256x128.Idx → EReal) (y : S256x256.Idx) : EReal :=
  X (ix3 0 (y 0) ⟨(y 1).val % 128, Nat.mod_lt _ (by decide)⟩) * ((if (y 1).val < 128 then a else b) * kk)

/-- The factors of the scores, read back after the two stores that write them: the key block's scale times the query block's factor, by which half of the queries the column is in. -/
theorem factors {sp : Space} (v : View sig .tc sp S256x256 .f32) (f : v.ty.Contents (Elt Ideal)) (a b : Elt Ideal .f32) (X : Vec Ideal S1x256x128 .f32) :
    v.read (Elt Ideal) (v.writes (Elt Ideal) f [⟨Rect.unit ![0, 128] S256x128.size inb_S256x256_S256x128_0_128, k0_pay39 b X⟩,
      ⟨Rect.unit ![0, 0] S256x128.size inb_S256x256_S256x128_0_0, k0_pay38 a X⟩]) = cm a b X := by
  funext y
  have h0 : (y 0).val < 256 := (y 0).isLt
  have h1 : (y 1).val < 256 := (y 1).isLt
  unfold cm
  by_cases h : (y 1).val < 128
  · rw [View.read_writes_cons_unit_of_not_mem v f (off' := ![0, 128]) inb_S256x256_S256x128_0_128 _ _ y rfl 1 (.inl h),
      View.read_writes_cons_unit_of_mem v f (off' := ![0, 0]) inb_S256x256_S256x128_0_0 _ _ y (ix2 (y 0) ⟨(y 1).val, h⟩) rfl
        (Fin.forall_fin_two.mpr ⟨(Nat.zero_add _).symm, (Nat.zero_add _).symm⟩), if_pos h]
    refine (pay38_apply a X _).trans ?_
    show X (ix3 0 (y 0) ⟨(y 1).val, h⟩) * _ = _
    simp only [Nat.mod_eq_of_lt h]; rfl
  · rw [View.read_writes_cons_unit_of_mem v f (off' := ![0, 128]) inb_S256x256_S256x128_0_128 _ _ y (ix2 (y 0) ⟨(y 1).val - 128, by omega⟩) rfl
        (Fin.forall_fin_two.mpr ⟨(Nat.zero_add _).symm, by show (y 1).val = 128 + ((y 1).val - 128); omega⟩), if_neg h]
    refine (pay39_apply b X _).trans ?_
    show X (ix3 0 (y 0) ⟨(y 1).val - 128, _⟩) * _ = _
    have e : (y 1).val % 128 = (y 1).val - 128 := by omega
    simp only [e]; rfl

/-- Storing 64 rows of the group's buffer. -/
theorem rows64 {sp : Space} (v : View sig .tc sp S256x256 .f32) (f : v.ty.Contents (Elt Ideal)) {off : Fin 2 → ℕ}
    (inb : ∀ a, off a + S64x256.size a ≤ S256x256.size a) (w : S64x256.Idx → EReal)
    (y : S256x256.Idx) (o : ℕ) (g : ℕ → ℕ → EReal) (hoff : off = ![o, 0]) (hw : ∀ x : S64x256.Idx, w x = g (x 0).val (x 1).val) :
    v.read (Elt Ideal) (v.writes (Elt Ideal) f [⟨Rect.unit (s := S256x256) off S64x256.size inb, w⟩]) y
      = if o ≤ (y 0).val ∧ (y 0).val < o + 64 then g ((y 0).val - o) (y 1).val else v.read (Elt Ideal) f y := by
  split
  · rename_i h
    have hy1 : (y 1).val < 256 := (y 1).isLt
    rw [View.read_writes_cons_rows_of_mem v f inb w [] y (ix2 (⟨(y 0).val - o, by omega⟩ : Fin 64) (⟨(y 1).val, hy1⟩ : Fin 256)) hoff
      (show (y 0).val = o + ((y 0).val - o) by omega) rfl]
    exact (hw _).trans rfl
  · rename_i h
    rw [View.read_writes_cons_rows_of_not_mem (W := 64) v f inb w [] y hoff rfl (by omega)]
    rfl

/-- The sum of the codes' products: the accumulator of value row `d` and query `j`. -/
def accS (S : S32768x256.Idx → EReal) (V : S1x256.Idx → EReal) (T : S64x32768.Idx → EReal) (d j : ℕ) : EReal :=
  ∑ n ∈ Finset.range 32768, at2 T d n * scC (scP S V n j)

/-- The sum of the probabilities of query `j`. -/
def totS (S : S32768x256.Idx → EReal) (V : S1x256.Idx → EReal) (j : ℕ) : EReal :=
  ∑ n ∈ Finset.range 32768, scP S V n j

section End
variable (𝒱 : Variants) (c : Dev nD) (bd : Option 𝒱.V) (i : grid0.Coords) (arg1 : Memref sig .tc .smem S8192 .f32) (harg1 : arg1.IsWhole) (arg2 : Memref sig .tc .vmem S1x256x128 .f32) (harg2 : arg2.IsWhole) (arg3 : Memref sig .tc .vmem S256x128 .fp8e4m3) (harg3 : arg3.IsWhole) (arg4 : Memref sig .tc .vmem S32768x128 .fp8e4m3) (harg4 : arg4.IsWhole) (arg5 : Memref sig .tc .vmem S64x32768 .fp8e4m3) (harg5 : arg5.IsWhole) (arg6 : Memref sig .tc .vmem S1x1x256 .f32) (harg6 : arg6.IsWhole) (arg7 : Memref sig .tc .vmem S256x256 .bf16) (harg7 : arg7.IsWhole) (arg8 : Memref sig .tc .vmem S32768x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S64x256 .f32) (harg11 : arg11.IsWhole) (arg12 : Memref sig .tc .vmem S256x256 .f32) (harg12 : arg12.IsWhole) (arg0 : BitVec 32) (v125 : FVec Ideal S256x128 .fp8e4m3) (v154 : Vec Ideal S1x256 .f32) (v155 : FVec Ideal S1x256 .f32) (X_arg4 : BufTy.Contents (Elt Ideal) arg4.view.ty) (X_arg5 : BufTy.Contents (Elt Ideal) arg5.view.ty) (X_arg9 : BufTy.Contents (Elt Ideal) arg9.view.ty) (G_arg8 : BufTy.Contents (Elt Ideal) arg8.view.ty) (G_arg11 : BufTy.Contents (Elt Ideal) arg11.view.ty) (init : FVec Ideal S8x256 .f32 × FVec Ideal S8x256 .f32)

/-- What the loop leaves after all its trips, from a zero accumulator, zero sums and maxima of minus infinity: the new scores, the weighted sums of the value codes, the row sums and the row maxima. -/
theorem loop_end (h1 : ∀ y, init.1 y = 0) (h2 : ∀ y, init.2 y = ⊥) (h11 : ∀ y, arg11.view.read (Elt Ideal) G_arg11 y = 0) (N : ℕ) (hN : N = 32)
    (K : S32768x128.Idx → EReal) (Q : S256x128.Idx → EReal) (C : S256x256.Idx → EReal) (T : S64x32768.Idx → EReal) (S : S32768x256.Idx → EReal) (W : S1x256.Idx → EReal)
    (hK : arg4.view.read (Elt Ideal) X_arg4 = K) (hQ : v125 = Q) (hC : arg9.view.read (Elt Ideal) X_arg9 = C) (hT : arg5.view.read (Elt Ideal) X_arg5 = T)
    (hS : arg8.view.read (Elt Ideal) G_arg8 = S) (hW : k0_pay41 v154 v155 = W) :
    (∀ y, arg8.view.read (Elt Ideal) (arg8.view.writes (Elt Ideal) G_arg8 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg0 v125 v154 v155 X_arg4 X_arg5 X_arg9 G_arg8 G_arg11 init N).2.1) y = scU K Q C (y 0).val (y 1).val)
    ∧ (∀ y z, k0_pay45 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg0 v125 v154 v155 X_arg4 X_arg5 X_arg9 G_arg8 G_arg11 init N).1.2 y ≤ z ↔ ∀ n, n < 32768 → scU K Q C n (y 1).val ≤ z)
    ∧ (∀ y, k0_pay46 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg0 v125 v154 v155 X_arg4 X_arg5 X_arg9 G_arg8 G_arg11 init N).1.1 y = totS S W (y 1).val * cst)
    ∧ (∀ y, arg11.view.read (Elt Ideal) (arg11.view.writes (Elt Ideal) G_arg11 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg0 v125 v154 v155 X_arg4 X_arg5 X_arg9 G_arg8 G_arg11 init N).2.2) y = accS S W T (y 0).val (y 1).val) := by
  subst hN hK hQ hC hT hS hW
  obtain ⟨p1, p2, p3, p4⟩ := loop_inv 𝒱 c bd i arg1 harg1 arg2 harg2 arg3 harg3 arg4 harg4 arg5 harg5 arg6 harg6 arg7 harg7 arg8 harg8 arg9 harg9 arg10 harg10 arg11 harg11 arg12 harg12 arg0 v125 v154 v155 X_arg4 X_arg5 X_arg9 G_arg8 G_arg11 init h1 h2 h11 32 le_rfl
  generalize (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg0 v125 v154 v155 X_arg4 X_arg5 X_arg9 G_arg8 G_arg11 init 32) = s at p1 p2 p3 p4 ⊢
  refine ⟨fun y => ?_, fun y z => ?_, fun y => ?_, fun y => ?_⟩
  · have h0 : (y 0).val < 32768 := (y 0).isLt
    exact (p3 y).trans (if_pos (by omega))
  · rw [pay45_le]
    constructor
    · intro h n hn
      exact (p2 _ z).mp (h ⟨n % 8, Nat.mod_lt _ (by decide)⟩) n (by omega) rfl
    · intro h r
      exact (p2 _ z).mpr fun n hn _ => h n (by omega)
  · rw [pay46_apply]
    refine congrArg (· * cst) ?_
    refine (Finset.sum_congr rfl fun r _ => p1 _).trans ?_
    exact Cert.Sums.classes (1024 * 32) fun n => scP (arg8.view.read (Elt Ideal) G_arg8) (k0_pay41 v154 v155) n (y 1).val
  · exact p4 y

end End

end Cert.KernelIdeal.Val

end
-- ==== Proof.Ideal.Blocks.lean ====
/- Where each window's block lies in its array at each grid point, and what it holds, in terms of the argument arrays. -/
module

public import proofs.«01_k».proof.Proof.Gen.KernelIdeal.Frame
public import proofs.«01_k».proof.Proof.Ideal.Words
public import proofs.«01_k».proof.Proof.Ideal.Finish

@[expose] public section

set_option maxRecDepth 16384

noncomputable section

namespace Cert.KernelIdeal.Val

open Idealize.ShloMosaic Idealize.ShloMosaic.TcCoe Idealize.ShloMosaic.Tactic
open Cert.KernelIdeal.Gen Cert.KernelIdeal.Hand

/-! ## The block indices -/

/-- The grid has one dimension: a point's coordinate is the point. -/
theorem coords_val : ∀ t : Fin grid0.N, (grid0.coords t 0).val = t.val := by decide +kernel

/-- Where each window's block lies at each grid point: the query scales, -/
theorem index0 : ∀ t : Fin grid0.N, win0_0.index t 0 = 0 := by decide +kernel
/-- the key scales, -/
theorem index1 : ∀ t : Fin grid0.N, win0_1.index t 0 = gOf t.val ∧ win0_1.index t 1 = 0 ∧ win0_1.index t 2 = 0 := by decide +kernel
/-- the query codes, -/
theorem index2 : ∀ t : Fin grid0.N, win0_2.index t 0 = qbOf t.val ∧ win0_2.index t 1 = hOf t.val / 2 := by decide +kernel
/-- the key codes, -/
theorem index3 : ∀ t : Fin grid0.N, win0_3.index t 0 = 0 ∧ win0_3.index t 1 = gOf t.val / 2 := by decide +kernel
/-- the value codes, -/
theorem index4 : ∀ t : Fin grid0.N, win0_4.index t 0 = gOf (t.val - 1) ∧ win0_4.index t 1 = 0 := by decide +kernel
/-- the value scales, -/
theorem index5 : ∀ t : Fin grid0.N, win0_5.index t 0 = gOf (t.val - 1) ∧ win0_5.index t 1 = 0 ∧ win0_5.index t 2 = 0 := by decide +kernel
/-- and the result. -/
theorem index6 : ∀ t : Fin grid0.N, win0_6.index t 0 = qbOf (t.val - 1) ∧ win0_6.index t 1 = gOf (t.val - 1) := by decide +kernel

/-- The result's block is written back at each fourth point. -/
theorem flush6 : ∀ t : Fin grid0.N, win0_6.flush t = true ↔ (t.val ≠ 0 ∧ (t.val - 1) % 4 = 3) := by decide +kernel

end Cert.KernelIdeal.Val

end
-- ==== Proof.Ideal.Spec.lean ====
/- What the attention call computes, entry by entry, from the argument arrays. -/
module

public import proofs.«01_k».proof.Proof.Ideal.Finish

@[expose] public section

set_option maxRecDepth 16384

noncomputable section

namespace Cert.KernelIdeal.Val

open Idealize.ShloMosaic Idealize.ShloMosaic.TcCoe Idealize.ShloMosaic.Tactic
open Cert.KernelIdeal.Gen Cert.KernelIdeal.Hand

/-- The argument arrays: the query codes and scales, the key codes and scales, the transposed value codes and their scales. -/
structure Args where
  q : S32768x2048.Idx → EReal
  qs : S256x32.Idx → EReal
  k : S32768x512.Idx → EReal
  ks : S256x8.Idx → EReal
  v : S512x32768.Idx → EReal
  vs : S512.Idx → EReal

variable (A : Args)

/-- The score of key row `n` for query row `r`, of key head `g` and query head `h`, in base-2 units. -/
def U (g h n r : ℕ) : EReal :=
  (∑ d ∈ Finset.range 64, at2 A.k n (64 * g + d) * at2 A.q r (64 * h + d)) * (at2 A.ks (n / 128) g * (at2 A.qs (r / 128) h * kk))

/-- The largest of a query row's scores. -/
def Mx (g h r : ℕ) : EReal := (Finset.range 32768).sup fun n => U A g h n r

/-- The unnormalised probability, times 256. -/
def P (g h n r : ℕ) : EReal := FloatOps.exp2 (F := Ideal) (φ := .f32) (U A g h n r - (Mx A g h r - Ideal.ofBits .f32 0x41000000#32))

/-- The sum of the values' codes weighted by the probabilities' codes. -/
def Acc (g h d r : ℕ) : EReal := ∑ n ∈ Finset.range 32768, at2 A.v (64 * g + d) n * scC (P A g h n r)

/-- The sum of the unnormalised probabilities. -/
def Tot (g h r : ℕ) : EReal := ∑ n ∈ Finset.range 32768, P A g h n r

/-- Their quotient. -/
def Quo (g h d r : ℕ) : EReal := Ideal.div (Acc A g h d r * cst) (Tot A g h r * cst)

/-- The result's entry at row `r` and column `x`. -/
def Out (r x : ℕ) : EReal := Quo A (x / 256) (x / 64) (x % 64) r * at1 A.vs (64 * (x / 256) + x % 64)

/-- What has the same upper bounds as a row's scores is their largest. -/
theorem Mx_of (g h r : ℕ) (x : EReal) (hx : ∀ z, x ≤ z ↔ ∀ n, n < 32768 → U A g h n r ≤ z) : x = Mx A g h r :=
  eq_of_forall_ge_iff fun z => (hx z).trans (by unfold Mx; rw [Finset.sup_le_iff]; simp only [Finset.mem_range])

/-- The shift of the exponents: the row's maximum less eight. -/
theorem shift8_apply (d : Vec Ideal S1x256 .f32) (y : S1x256.Idx) : k0_pay41 (F := Ideal) d k0_pay40 y = d y - Ideal.ofBits .f32 0x41000000#32 := by
  pointwise [k0_pay41, k0_pay40]

/-- Scores read off the stored matrix. -/
theorem accS_of (S : S32768x256.Idx → EReal) (D : Vec Ideal S1x256 .f32) (T : S64x32768.Idx → EReal) (g h R d j : ℕ) (hj : j < 256) (hd : d < 64)
    (hS : ∀ y, S y = U A g h (y 0).val (R + (y 1).val)) (hD : ∀ y, D y = Mx A g h (R + (y 1).val)) (hT : ∀ y, T y = at2 A.v (64 * g + (y 0).val) (y 1).val) :
    accS S (k0_pay41 (F := Ideal) D k0_pay40) T d j = Acc A g h d (R + j) ∧ totS S (k0_pay41 (F := Ideal) D k0_pay40) j = Tot A g h (R + j) := by
  have hP : ∀ n ∈ Finset.range 32768, scP S (k0_pay41 (F := Ideal) D k0_pay40) n j = P A g h n (R + j) := by
    intro n hn
    have hn' := Finset.mem_range.1 hn
    unfold scP P
    rw [show at2 S n j = U A g h n (R + j) by unfold at2; rw [dif_pos ⟨hn', hj⟩]; exact hS _,
      show at2 (k0_pay41 (F := Ideal) D k0_pay40) 0 j = Mx A g h (R + j) - Ideal.ofBits .f32 0x41000000#32 by
        unfold at2; rw [dif_pos ⟨Nat.zero_lt_one, hj⟩, shift8_apply, hD]; rfl]
  refine ⟨?_, Finset.sum_congr rfl hP⟩
  unfold accS Acc
  refine Finset.sum_congr rfl fun n hn => ?_
  have hn' := Finset.mem_range.1 hn
  rw [hP n hn, show at2 T d n = at2 A.v (64 * g + d) n by
    conv_lhs => unfold at2
    rw [dif_pos ⟨hd, hn'⟩]; exact hT _]

/-- A sum over 128 lanes is the sums over its two halves. -/
theorem sum128 (f : ℕ → EReal) : ∑ d : Fin 128, f d.val = ∑ d ∈ Finset.range 64, f d + ∑ d ∈ Finset.range 64, f (64 + d) := by
  rw [Fin.sum_univ_eq_sum_range f 128]; exact Finset.sum_range_add f 64 64

end Cert.KernelIdeal.Val

end
-- ==== Proof.Ideal.Arrays.lean ====
/- What the arrays that the host prepares hold, and what each window's block holds, in terms of the argument arrays. -/
module

public import proofs.«01_k».proof.Proof.Ideal.Blocks
public import proofs.«01_k».proof.Proof.Ideal.Spec

@[expose] public section

set_option maxRecDepth 16384

noncomputable section

namespace Cert.KernelIdeal.Val

open Idealize.ShloMosaic Idealize.ShloMosaic.TcCoe Idealize.ShloMosaic.Tactic
open Cert.KernelIdeal.Gen Cert.KernelIdeal.Hand

variable (m : (ℓ : Loc nD τ sig) → Buf (Elt Ideal) ℓ) (c : Dev nD)

/-- The argument arrays as the run finds them. -/
def argsOf : Args where
  q := m ((c.tc : Thread nD τ).loc main_arg0)
  qs := m ((c.tc : Thread nD τ).loc main_arg1)
  k := m ((c.tc : Thread nD τ).loc main_arg2)
  ks := m ((c.tc : Thread nD τ).loc main_arg3)
  v := m ((c.tc : Thread nD τ).loc main_arg4)
  vs := m ((c.tc : Thread nD τ).loc main_arg5)

/-- The key scales as the host lays them out: one plane per key head, a row per block of 128 keys, the scale in every lane. -/
theorem V_ks (y : S8x256x128.Idx) : V m c main_v2 y = at2 (argsOf m c).ks (y 1).val (y 0).val := by
  have h : V m c main_v2 = broadcastInDim S8x256x128 ![0, 1, 2] bcast_S8x256x1_S8x256x128_0_1_2 (broadcastInDim S8x256x1 ![0, 1] bcast_S8x256_S8x256x1_0_1 (transpose S8x256 [1, 0] (argsOf m c).ks transposes_S256x8_S8x256_1_0)) := by
    show StableHlo.after hostOps0 _ (Proc.devRef .tc main_v2) = _
    after_results
    rfl
  rw [h]
  pointwise []
  exact at2_of _ _ _ _ rfl rfl

/-- The query scales as the host lays them out: one row after the other. -/
theorem V_qs (y : S8192.Idx) : V m c main_v7 y = at2 (argsOf m c).qs ((y 0).val / 32) ((y 0).val % 32) := by
  have h : V m c main_v7 = shapeCast S8192 (argsOf m c).qs shapeCasts_S256x32_S8192 := by
    show StableHlo.after hostOps0 _ (Proc.devRef .tc main_v7) = _
    after_results
    rfl
  rw [h]
  pointwise []
  exact at2_of _ _ _ _ rfl rfl

/-- The value scales as the host lays them out: a row per key head, repeated for the four query heads of its group. -/
theorem V_vs (y : S8x1x256.Idx) : V m c main_v6 y = at1 (argsOf m c).vs (64 * (y 0).val + (y 2).val % 64) := by
  have h : V m c main_v6 = shapeCast S8x1x256 (broadcastInDim S1x8x1x1x4x64 ![0, 1, 2, 3, 4, 5] bcast_S1x8x1x1x1x64_S1x8x1x1x4x64_0_1_2_3_4_5
      (shapeCast S1x8x1x1x1x64 (shapeCast S8x1x64 (argsOf m c).vs shapeCasts_S512_S8x1x64) shapeCasts_S8x1x64_S1x8x1x1x1x64)) shapeCasts_S1x8x1x1x4x64_S8x1x256 := by
    show StableHlo.after hostOps0 _ (Proc.devRef .tc main_v6) = _
    after_results
    rfl
  rw [h]
  pointwise []
  refine at1_of _ _ _ ?_
  dsimp [ix1]
  omega

/-! ## The blocks -/

/-- The block of the query scales is all of them. -/
theorem blk_qs (t : Fin cfg0.N) (y : S8192.Idx) : iblk m c 0 t y = at2 (argsOf m c).qs ((y 0).val / 32) ((y 0).val % 32) := by
  unfold iblk
  rw [View.read_apply]
  refine (V_qs m c _).trans ?_
  show at2 _ ((win0_0.index t 0 * 8192 + 1 * (y 0).val) / 32) ((win0_0.index t 0 * 8192 + 1 * (y 0).val) % 32) = _
  rw [index0 t, Nat.zero_mul, Nat.zero_add, Nat.one_mul]

/-- The block of the key scales is the current key head's. -/
theorem blk_ks (t : Fin cfg0.N) (y : S1x256x128.Idx) : iblk m c 1 t y = at2 (argsOf m c).ks (y 1).val (gOf t.val) := by
  unfold iblk
  rw [View.read_apply]
  refine (V_ks m c _).trans ?_
  show at2 _ (win0_1.index t 1 * 256 + 1 * (y 1).val) (win0_1.index t 0 * 1 + 1 * (y 0).val) = _
  have hy : (y 0).val < 1 := (y 0).isLt
  rw [(index1 t).1, (index1 t).2.1, Nat.zero_mul, Nat.zero_add, Nat.one_mul, Nat.one_mul, Nat.mul_one, Nat.lt_one_iff.1 hy, Nat.add_zero]

/-- The block of the query codes is 256 rows of the pair of heads that the current query head is in. -/
theorem blk_q (t : Fin cfg0.N) (y : S256x128.Idx) : iblk m c 2 t y = at2 (argsOf m c).q (256 * qbOf t.val + (y 0).val) (128 * (hOf t.val / 2) + (y 1).val) := by
  unfold iblk
  rw [View.read_apply]
  show V m c main_arg0 _ = _
  rw [V_main_arg0]
  refine at2_of (argsOf m c).q _ _ _ ?_ ?_
  · show win0_2.index t 0 * 256 + 1 * (y 0).val = _
    rw [(index2 t).1]; omega
  · show win0_2.index t 1 * 128 + 1 * (y 1).val = _
    rw [(index2 t).2]; omega

/-- The block of the key codes is every row of the pair of heads that the current key head is in. -/
theorem blk_k (t : Fin cfg0.N) (y : S32768x128.Idx) : iblk m c 3 t y = at2 (argsOf m c).k (y 0).val (128 * (gOf t.val / 2) + (y 1).val) := by
  unfold iblk
  rw [View.read_apply]
  show V m c main_arg2 _ = _
  rw [V_main_arg2]
  refine at2_of (argsOf m c).k _ _ _ ?_ ?_
  · show win0_3.index t 0 * 32768 + 1 * (y 0).val = _
    rw [(index3 t).1]; omega
  · show win0_3.index t 1 * 128 + 1 * (y 1).val = _
    rw [(index3 t).2]; omega

/-- The block of the value codes is the columns of the previous tile's key head. -/
theorem blk_v (t : Fin cfg0.N) (y : S64x32768.Idx) : iblk m c 4 t y = at2 (argsOf m c).v (64 * gOf (t.val - 1) + (y 0).val) (y 1).val := by
  unfold iblk
  rw [View.read_apply]
  show V m c main_arg4 _ = _
  rw [V_main_arg4]
  refine at2_of (argsOf m c).v _ _ _ ?_ ?_
  · show win0_4.index t 0 * 64 + 1 * (y 0).val = _
    rw [(index4 t).1]; omega
  · show win0_4.index t 1 * 32768 + 1 * (y 1).val = _
    rw [(index4 t).2]; omega

/-- The block of the value scales is the previous tile's key head's. -/
theorem blk_vs (t : Fin cfg0.N) (y : S1x1x256.Idx) : iblk m c 5 t y = at1 (argsOf m c).vs (64 * gOf (t.val - 1) + (y 2).val % 64) := by
  unfold iblk
  rw [View.read_apply]
  refine (V_vs m c _).trans ?_
  show at1 _ (64 * (win0_5.index t 0 * 1 + 1 * (y 0).val) + (win0_5.index t 2 * 256 + 1 * (y 2).val) % 64) = _
  have hy : (y 0).val < 1 := (y 0).isLt
  rw [(index5 t).1, (index5 t).2.2, Nat.zero_mul, Nat.zero_add, Nat.one_mul, Nat.one_mul, Nat.mul_one, Nat.lt_one_iff.1 hy, Nat.add_zero]

end Cert.KernelIdeal.Val

end
-- ==== Proof.Ideal.BodyVal.lean ====
/- One run of the kernel body at one grid point, with what it computes. -/
module

public import proofs.«01_k».proof.Proof.Gen.KernelIdeal.Frame
public import proofs.«01_k».proof.Proof.Gen.KernelIdeal.Loops
public import proofs.«01_k».proof.Proof.Ideal.Finish

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Hand

local notation "𝕄" => MT nD τ sig Unit (Elt Ideal) ℕ (UR sig nD τ) ℕ

/-- The scores of the tile of point `t` from its blocks. -/
def sc (t : ℕ) (x1 : Vec Ideal S8192 .f32) (x2 : Vec Ideal S1x256x128 .f32) (x3 : Vec Ideal S256x128 .fp8e4m3) (x4 : Vec Ideal S32768x128 .fp8e4m3) (n j : ℕ) : EReal :=
  scU x4 (qm (gOf t) (hOf t) x3) (cm (at1 x1 ((qbOf t * 2 + 0) * 32 + hOf t)) (at1 x1 ((qbOf t * 2 + 1) * 32 + hOf t)) x2) n j

/-- The maxima shifted by eight. -/
def shift8 (d : Vec Ideal S1x256 .f32) : FVec Ideal S1x256 .f32 := k0_pay41 (F := Ideal) d k0_pay40

/-- What the body computes at point `i`: this tile's scores and their maxima, the last tile's rows of the group's buffer, and the group's output. -/
structure BodyRel (i : grid0.Coords) (x1 : Vec Ideal S8192 .f32) (x2 : Vec Ideal S1x256x128 .f32) (x3 : Vec Ideal S256x128 .fp8e4m3) (x4 : Vec Ideal S32768x128 .fp8e4m3)
    (x5 : Vec Ideal S64x32768 .fp8e4m3) (x6 : Vec Ideal S1x1x256 .f32) (d7 : Vec Ideal S256x256 .bf16) (d8 : Vec Ideal S32768x256 .f32) (d10 : Vec Ideal S1x256 .f32)
    (d12 : Vec Ideal S256x256 .f32) (X7 : Vec Ideal S256x256 .bf16) (X8 : Vec Ideal S32768x256 .f32) (X10 : Vec Ideal S1x256 .f32) (X12 : Vec Ideal S256x256 .f32) : Prop where
  scores : ∀ y, X8 y = sc (i 0).val x1 x2 x3 x4 (y 0).val (y 1).val
  maxes : ∀ y z, X10 y ≤ z ↔ ∀ n, n < 32768 → sc (i 0).val x1 x2 x3 x4 n (y 1).val ≤ z
  rows : (i 0).val ≠ 0 → ∀ y, X12 y = if 64 * (((i 0).val - 1) % 4) ≤ (y 0).val ∧ (y 0).val < 64 * (((i 0).val - 1) % 4) + 64
    then Ideal.div (accS d8 (shift8 d10) x5 ((y 0).val - 64 * (((i 0).val - 1) % 4)) (y 1).val * cst) (totS d8 (shift8 d10) (y 1).val * cst) else d12 y
  kept : ((i 0).val - 1) % 4 ≠ 3 → X7 = d7
  out : ((i 0).val - 1) % 4 = 3 → ∀ y, X7 y = X12 (ix2 (y 1) (y 0)) * x6 (ix3 0 0 (y 1))

/-- The row sums start at zero, -/
theorem zero43 : ∀ y, k0_pay43 (F := Ideal) y = 0 := fun y => by pointwise [k0_pay43]
/-- the accumulator starts at zero, -/
theorem zero42 : ∀ y, k0_pay42 (F := Ideal) y = 0 := fun y => by pointwise [k0_pay42]
/-- and the row maxima start at minus infinity. -/
theorem bot44 : ∀ y, k0_pay44 (F := Ideal) y = ⊥ := fun y => by pointwise [k0_pay44]; exact ofBits_neg_inf

set_option maxHeartbeats 8000000 in
/-- The body at one grid point, run on blocks and scratch of the given contents, ends with the contents that its loop and its stores compute. -/
theorem body_val (c : Dev nD) (E : Set ℕ) (i : grid0.Coords) (arg1 : Memref sig .tc .smem S8192 .f32) (harg1 : arg1.IsWhole) (arg2 : Memref sig .tc .vmem S1x256x128 .f32) (harg2 : arg2.IsWhole) (arg3 : Memref sig .tc .vmem S256x128 .fp8e4m3) (harg3 : arg3.IsWhole) (arg4 : Memref sig .tc .vmem S32768x128 .fp8e4m3) (harg4 : arg4.IsWhole) (arg5 : Memref sig .tc .vmem S64x32768 .fp8e4m3) (harg5 : arg5.IsWhole) (arg6 : Memref sig .tc .vmem S1x1x256 .f32) (harg6 : arg6.IsWhole) (arg7 : Memref sig .tc .vmem S256x256 .bf16) (harg7 : arg7.IsWhole) (arg8 : Memref sig .tc .vmem S32768x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S64x256 .f32) (harg11 : arg11.IsWhole) (arg12 : Memref sig .tc .vmem S256x256 .f32) (harg12 : arg12.IsWhole)
    (x1 : Vec Ideal S8192 .f32) (x2 : Vec Ideal S1x256x128 .f32) (x3 : Vec Ideal S256x128 .fp8e4m3) (x4 : Vec Ideal S32768x128 .fp8e4m3) (x5 : Vec Ideal S64x32768 .fp8e4m3) (x6 : Vec Ideal S1x1x256 .f32)
    (d7 : Vec Ideal S256x256 .bf16) (d8 : Vec Ideal S32768x256 .f32) (d9 : Vec Ideal S256x256 .f32) (d10 : Vec Ideal S1x256 .f32) (d11 : Vec Ideal S64x256 .f32) (d12 : Vec Ideal S256x256 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ X7 X8 X9 X10 X11 X12, owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ ⌜BodyRel i x1 x2 x3 x4 x5 x6 d7 d8 d10 d12 X7 X8 X10 X12⌝)) -∗ K ⟨⟩))
      ⊢ wp frame (wpE (defs₀ (F := Ideal)) Variants.none c none) E (cc0_attention (F := Ideal) i arg1 harg1 arg2 harg2 arg3 harg3 arg4 harg4 arg5 harg5 arg6 harg6 arg7 harg7 arg8 harg8 arg9 harg9 arg10 harg10 arg11 harg11 arg12 harg12) K := by
  simp only [cc0_attention_eq_skeleton]; unfold cc0_attention_skel
  simp only [k0_part6_eq_skeleton, k0_part7_eq_skeleton, k0_part8_eq_skeleton, k0_part9_eq_skeleton, k0_part10_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  by_cases hc1 : k0_cond1 i = 1#1 <;> by_cases hc2 : k0_cond2 i = 1#1
  · exact absurd ((cond2_iff i).mp hc2) (by rw [(cond1_iff i).mp hc1]; decide)
  all_goals
    sl_exec
    sl_step
    iapply Hk
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    iexists _, _, _, _, _, _
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    ipureintro
    have e0 : ∀ y, arg11.view.read (Elt Ideal) (arg11.view.writes (Elt Ideal) arg11.view.junk
        [⟨Rect.unit (s := S64x256) ![0, 0] S64x256.size inb_S64x256_S64x256_0_0, k0_pay42 (F := Ideal)⟩]) y = 0 := fun y => by
      rw [View.read_writes_full]; exact zero42 y
    have eq : k0_pay37 (k0_pay35 (k0_pay34 (arg3.view.readAt (Elt Ideal) (Rect.unit (s := S256x128) ![0, 0] S256x128.size inb_S256x128_S256x128_0_0).toLoadRect f3))
        (w71 i) 2#32 (w74 i) (w75 i)) k0_pay36 (w119 i) = qm (gOf (i 0).val) (hOf (i 0).val) x3 := by
      rw [qmask_apply, View.readAt_full]; exact congrArg (qm _ _) hf3
    have ec : arg9.view.read (Elt Ideal) (arg9.view.writes (Elt Ideal) arg9.view.junk
        [⟨Rect.unit (s := S256x256) ![0, 128] S256x128.size inb_S256x256_S256x128_0_128,
            k0_pay39 (F := Ideal) (arg1.view.readAt (Elt Ideal) (Rect.unit (s := S8192) (k0_off2 i 1#32) S1.size (k0_off2_inb i 1)).toLoadRect f1 (Shape.Idx.first (by show 0 < S1.numel; rw [numel1_S1]; decide)))
              (arg2.view.readAt (Elt Ideal) (Rect.unit (s := S1x256x128) ![0, 0, 0] S1x256x128.size inb_S1x256x128_S1x256x128_0_0_0).toLoadRect f2)⟩,
          ⟨Rect.unit (s := S256x256) ![0, 0] S256x128.size inb_S256x256_S256x128_0_0,
            k0_pay38 (F := Ideal) (arg1.view.readAt (Elt Ideal) (Rect.unit (s := S8192) (k0_off2 i 0#32) S1.size (k0_off2_inb i 0)).toLoadRect f1 (Shape.Idx.first (by show 0 < S1.numel; rw [numel1_S1]; decide)))
              (arg2.view.readAt (Elt Ideal) (Rect.unit (s := S1x256x128) ![0, 0, 0] S1x256x128.size inb_S1x256x128_S1x256x128_0_0_0).toLoadRect f2)⟩])
        = cm (at1 x1 ((qbOf (i 0).val * 2 + 0) * 32 + hOf (i 0).val)) (at1 x1 ((qbOf (i 0).val * 2 + 1) * 32 + hOf (i 0).val)) x2 := by
      rw [factors, View.readAt_full, hf2]
      subst hf1
      exact congrArg₂ (fun a b => cm a b x2) (smem_at arg1.view f1 (k0_off2_inb i 0) _ (off2_0_at (i 0)) _) (smem_at arg1.view f1 (k0_off2_inb i 1) _ (off2_1_at (i 0)) _)
  · constructor
    · intro y
      rw [View.writes_append]
      exact (loop_end Variants.none c none i arg1 harg1 arg2 harg2 arg3 harg3 arg4 harg4 arg5 harg5 arg6 harg6 arg7 harg7 arg8 harg8 arg9 harg9 arg10 harg10 arg11 harg11 arg12 harg12 (BitVec.ofNat 32 (i 0).val) _ _ _ _ _ _ _ _ (k0_pay43, k0_pay44) zero43 bot44 e0 (Scf.trips k0_t2_loop.lb k0_t2_loop.ub k0_t2_loop.st) (by decide +kernel) _ _ _ _ _ _ hf4 eq ec hf5 rfl rfl).1 y
    · intro y z
      rw [View.read_writes_full]
      exact (loop_end Variants.none c none i arg1 harg1 arg2 harg2 arg3 harg3 arg4 harg4 arg5 harg5 arg6 harg6 arg7 harg7 arg8 harg8 arg9 harg9 arg10 harg10 arg11 harg11 arg12 harg12 (BitVec.ofNat 32 (i 0).val) _ _ _ _ _ _ _ _ (k0_pay43, k0_pay44) zero43 bot44 e0 (Scf.trips k0_t2_loop.lb k0_t2_loop.ub k0_t2_loop.st) (by decide +kernel) _ _ _ _ _ _ hf4 eq ec hf5 rfl rfl).2.1 y z
    · intro h; exact absurd ((cond1_iff i).mp hc1) h
    · intro _; exact hf7
    · intro h; exact absurd ((cond2_iff i).mpr h) hc2
  · have ew : k0_pay41 (F := Ideal) (arg10.view.readAt (Elt Ideal) (Rect.unit (s := S1x256) ![0, 0] S1x256.size inb_S1x256_S1x256_0_0).toLoadRect f10) k0_pay40 = shift8 d10 := by
      rw [View.readAt_full, hf10]; rfl
    obtain ⟨p1, p2, p3, p4⟩ := loop_end Variants.none c none i arg1 harg1 arg2 harg2 arg3 harg3 arg4 harg4 arg5 harg5 arg6 harg6 arg7 harg7 arg8 harg8 arg9 harg9 arg10 harg10 arg11 harg11 arg12 harg12 (BitVec.ofNat 32 (i 0).val) _ _ _ _ _ _ _ _ (k0_pay43, k0_pay44) zero43 bot44 e0 (Scf.trips k0_t2_loop.lb k0_t2_loop.ub k0_t2_loop.st) (by decide +kernel) _ _ _ _ _ _ hf4 eq ec hf5 hf8 ew
    constructor
    · intro y; exact p1 y
    · intro y z
      rw [View.read_writes_full]
      exact p2 y z
    · intro _ y
      refine (rows64 arg12.view f12 _ _ y _ (fun r j => Ideal.div (accS d8 (shift8 d10) x5 r j * cst) (totS d8 (shift8 d10) j * cst)) (off7_eq i) (fun x => ?_)).trans ?_
      · refine (pay1_apply _ _ x).trans (congr (congrArg Ideal.div ?_) ?_)
        · refine (pay47_apply _ x).trans (congrArg (· * cst) ?_)
          refine (congrFun (View.readAt_full arg11.view _ _) x).trans ?_
          rw [View.writes_append]
          exact p4 x
        · exact p3 _
      · rw [hf12]
    · intro h; exact absurd ((cond2_iff i).mp hc2) h
    · intro _ y
      rw [View.read_writes_full]
      refine (pay2_apply _ _ y).trans (congr (congrArg HMul.hMul ?_) ?_)
      · exact congrFun (View.readAt_full arg12.view _ _) _
      · refine (congrFun (View.readAt_full arg6.view _ _) _).trans ?_
        rw [hf6]
  · have ew : k0_pay41 (F := Ideal) (arg10.view.readAt (Elt Ideal) (Rect.unit (s := S1x256) ![0, 0] S1x256.size inb_S1x256_S1x256_0_0).toLoadRect f10) k0_pay40 = shift8 d10 := by
      rw [View.readAt_full, hf10]; rfl
    obtain ⟨p1, p2, p3, p4⟩ := loop_end Variants.none c none i arg1 harg1 arg2 harg2 arg3 harg3 arg4 harg4 arg5 harg5 arg6 harg6 arg7 harg7 arg8 harg8 arg9 harg9 arg10 harg10 arg11 harg11 arg12 harg12 (BitVec.ofNat 32 (i 0).val) _ _ _ _ _ _ _ _ (k0_pay43, k0_pay44) zero43 bot44 e0 (Scf.trips k0_t2_loop.lb k0_t2_loop.ub k0_t2_loop.st) (by decide +kernel) _ _ _ _ _ _ hf4 eq ec hf5 hf8 ew
    constructor
    · intro y; exact p1 y
    · intro y z
      rw [View.read_writes_full]
      exact p2 y z
    · intro _ y
      refine (rows64 arg12.view f12 _ _ y _ (fun r j => Ideal.div (accS d8 (shift8 d10) x5 r j * cst) (totS d8 (shift8 d10) j * cst)) (off7_eq i) (fun x => ?_)).trans ?_
      · refine (pay1_apply _ _ x).trans (congr (congrArg Ideal.div ?_) ?_)
        · refine (pay47_apply _ x).trans (congrArg (· * cst) ?_)
          refine (congrFun (View.readAt_full arg11.view _ _) x).trans ?_
          rw [View.writes_append]
          exact p4 x
        · exact p3 _
      · rw [hf12]
    · intro _; exact hf7
    · intro h; exact absurd ((cond2_iff i).mpr h) hc2

end Cert.KernelIdeal.Val

end
-- ==== Proof.Ideal.Scores.lean ====
/- The scores that the body computes at a point are the scores of the tile's query rows: the sum over 128 lanes, half of them masked, is the
   sum over the head's 64. -/
module

public import proofs.«01_k».proof.Proof.Ideal.Arrays
public import proofs.«01_k».proof.Proof.Ideal.BodyVal

@[expose] public section

set_option maxRecDepth 16384

noncomputable section

namespace Cert.KernelIdeal.Val

open Idealize.ShloMosaic Idealize.ShloMosaic.TcCoe Idealize.ShloMosaic.Tactic
open Cert.KernelIdeal.Gen Cert.KernelIdeal.Hand

/-- The 128-lane sum with a half masked. -/
theorem lanes (A : Args) (g h n r : ℕ) :
    (∑ d : Fin 128, at2 A.k n (128 * (g / 2) + d.val) * (if d.val / 64 = g % 2 then
      at2 A.q r (128 * (h / 2) + (if h % 2 = g % 2 then d.val else (d.val + 64) % 128)) else 0))
    = ∑ d ∈ Finset.range 64, at2 A.k n (64 * g + d) * at2 A.q r (64 * h + d) := by
  rw [sum128 fun d => at2 A.k n (128 * (g / 2) + d) * (if d / 64 = g % 2 then
      at2 A.q r (128 * (h / 2) + (if h % 2 = g % 2 then d else (d + 64) % 128)) else 0)]
  rcases Nat.mod_two_eq_zero_or_one g with hg | hg
  · rw [Finset.sum_eq_zero (s := Finset.range 64) (f := fun d => at2 A.k n (128 * (g / 2) + (64 + d)) * (if (64 + d) / 64 = g % 2 then
      at2 A.q r (128 * (h / 2) + (if h % 2 = g % 2 then 64 + d else (64 + d + 64) % 128)) else 0)), add_zero]
    · refine Finset.sum_congr rfl fun d hd => ?_
      have hd' := Finset.mem_range.1 hd
      rw [if_pos (by omega)]
      congr 2
      · omega
      · split_ifs with hh <;> omega
    · intro d hd
      have hd' := Finset.mem_range.1 hd
      rw [if_neg (by omega), mul_zero]
  · rw [Finset.sum_eq_zero (s := Finset.range 64) (f := fun d => at2 A.k n (128 * (g / 2) + d) * (if d / 64 = g % 2 then
      at2 A.q r (128 * (h / 2) + (if h % 2 = g % 2 then d else (d + 64) % 128)) else 0)), zero_add]
    · refine Finset.sum_congr rfl fun d hd => ?_
      have hd' := Finset.mem_range.1 hd
      rw [if_pos (by omega)]
      congr 2
      · omega
      · split_ifs with hh <;> omega
    · intro d hd
      have hd' := Finset.mem_range.1 hd
      rw [if_neg (by omega), mul_zero]

/-- The scores computed at a grid point are the specified scores of its tile. -/
theorem sc_gen (A : Args) (t : ℕ) (x1 : Vec Ideal S8192 .f32) (x2 : Vec Ideal S1x256x128 .f32) (x3 : Vec Ideal S256x128 .fp8e4m3) (x4 : Vec Ideal S32768x128 .fp8e4m3)
    (h1 : ∀ y, x1 y = at2 A.qs ((y 0).val / 32) ((y 0).val % 32))
    (h2 : ∀ y, x2 y = at2 A.ks (y 1).val (gOf t))
    (h3 : ∀ y, x3 y = at2 A.q (256 * qbOf t + (y 0).val) (128 * (hOf t / 2) + (y 1).val))
    (h4 : ∀ y, x4 y = at2 A.k (y 0).val (128 * (gOf t / 2) + (y 1).val))
    (n j : ℕ) (hn : n < 32768) (hj : j < 256) :
    sc t x1 x2 x3 x4 n j = U A (gOf t) (hOf t) n (256 * qbOf t + j) := by
  have hq : qbOf t < 128 := by unfold qbOf tileOf; omega
  have hh : hOf t < 32 := by unfold hOf gOf tileOf; omega
  have e3 : ∀ e, e < 128 → at2 x3 j e = at2 A.q (256 * qbOf t + j) (128 * (hOf t / 2) + e) := fun e he => by
    conv_lhs => unfold at2
    rw [dif_pos ⟨hj, he⟩]; exact h3 _
  have ea : ∀ i, i < 8192 → at1 x1 i = at2 A.qs (i / 32) (i % 32) := fun i hi => by
    unfold at1; rw [dif_pos hi]; exact h1 _
  unfold sc scU U
  refine congrArg₂ (· * ·) ?_ ?_
  · refine Eq.trans ?_ (lanes A (gOf t) (hOf t) n (256 * qbOf t + j))
    refine Finset.sum_congr rfl fun d _ => congrArg₂ (· * ·) ?_ ?_
    · have hd := d.isLt
      conv_lhs => unfold at2
      rw [dif_pos ⟨hn, hd⟩]; exact h4 _
    · have hd := d.isLt
      conv_lhs => unfold at2
      rw [dif_pos ⟨hj, hd⟩]
      unfold qm
      show (if d.val / 64 = gOf t % 2 then at2 x3 j (if hOf t % 2 = gOf t % 2 then d.val else (d.val + 64) % 128) else 0) = _
      split_ifs
      · exact e3 _ hd
      · exact e3 _ (Nat.mod_lt _ (by decide))
      · rfl
  · conv_lhs => unfold at2
    rw [dif_pos ⟨by omega, hj⟩]
    unfold cm
    refine congrArg₂ (· * ·) ((h2 _).trans rfl) (congrArg (· * kk) ?_)
    show (if j < 128 then _ else _) = _
    split_ifs with hlt
    · rw [ea _ (by omega)]; congr 1 <;> omega
    · rw [ea _ (by omega)]; congr 1 <;> omega

end Cert.KernelIdeal.Val

end
-- ==== Proof.Ideal.Inv.lean ====
/- What the scratch buffers hold between the grid points: the last tile's scores and maxima, and the finished heads of the group. -/
module

public import proofs.«01_k».proof.Proof.Ideal.Scores

@[expose] public section

set_option maxRecDepth 16384

noncomputable section

namespace Cert.KernelIdeal.Val

open Idealize.ShloMosaic Idealize.ShloMosaic.TcCoe Idealize.ShloMosaic.Tactic
open Cert.KernelIdeal.Gen Cert.KernelIdeal.Hand

/-- The scratch after point `t`. -/
structure Inv (A : Args) (t : ℕ) (X8 : Vec Ideal S32768x256 .f32) (X10 : Vec Ideal S1x256 .f32) (X12 : Vec Ideal S256x256 .f32) : Prop where
  scores : ∀ y, X8 y = U A (gOf t) (hOf t) (y 0).val (256 * qbOf t + (y 1).val)
  maxes : ∀ y, X10 y = Mx A (gOf t) (hOf t) (256 * qbOf t + (y 1).val)
  rows : t ≠ 0 → ∀ y, (y 0).val < 64 * ((t - 1) % 4) + 64 →
    X12 y = Quo A (gOf (t - 1)) (4 * gOf (t - 1) + (y 0).val / 64) ((y 0).val % 64) (256 * qbOf (t - 1) + (y 1).val)

/-- A point keeps the invariant, and writes its part of the result. -/
theorem inv_step (A : Args) (i : grid0.Coords) (t : ℕ) (hi : (i 0).val = t) (ht : t ≤ 4096)
    (x1 : Vec Ideal S8192 .f32) (x2 : Vec Ideal S1x256x128 .f32) (x3 : Vec Ideal S256x128 .fp8e4m3) (x4 : Vec Ideal S32768x128 .fp8e4m3)
    (x5 : Vec Ideal S64x32768 .fp8e4m3) (x6 : Vec Ideal S1x1x256 .f32) (d7 : Vec Ideal S256x256 .bf16) (d8 : Vec Ideal S32768x256 .f32) (d10 : Vec Ideal S1x256 .f32)
    (d12 : Vec Ideal S256x256 .f32) (X7 : Vec Ideal S256x256 .bf16) (X8 : Vec Ideal S32768x256 .f32) (X10 : Vec Ideal S1x256 .f32) (X12 : Vec Ideal S256x256 .f32)
    (h1 : ∀ y, x1 y = at2 A.qs ((y 0).val / 32) ((y 0).val % 32))
    (h2 : ∀ y, x2 y = at2 A.ks (y 1).val (gOf t))
    (h3 : ∀ y, x3 y = at2 A.q (256 * qbOf t + (y 0).val) (128 * (hOf t / 2) + (y 1).val))
    (h4 : ∀ y, x4 y = at2 A.k (y 0).val (128 * (gOf t / 2) + (y 1).val))
    (h5 : ∀ y, x5 y = at2 A.v (64 * gOf (t - 1) + (y 0).val) (y 1).val)
    (h6 : ∀ y, x6 y = at1 A.vs (64 * gOf (t - 1) + (y 2).val % 64))
    (hprev : t ≠ 0 → Inv A (t - 1) d8 d10 d12)
    (h : BodyRel i x1 x2 x3 x4 x5 x6 d7 d8 d10 d12 X7 X8 X10 X12) :
    Inv A t X8 X10 X12 ∧ ((t - 1) % 4 = 3 → ∀ y, X7 y = Out A (256 * qbOf (t - 1) + (y 0).val) (256 * gOf (t - 1) + (y 1).val)) := by
  have hrows : t ≠ 0 → ∀ y : S256x256.Idx, (y 0).val < 64 * ((t - 1) % 4) + 64 →
      X12 y = Quo A (gOf (t - 1)) (4 * gOf (t - 1) + (y 0).val / 64) ((y 0).val % 64) (256 * qbOf (t - 1) + (y 1).val) := by
    intro h0 y hy
    have hp := hprev h0
    have hr := h.rows (by rw [hi]; exact h0) y
    rw [hi] at hr
    have hy1 : (y 1).val < 256 := (y 1).isLt
    by_cases hin : 64 * ((t - 1) % 4) ≤ (y 0).val
    · rw [if_pos ⟨hin, hy⟩] at hr
      have hs := accS_of A d8 d10 x5 (gOf (t - 1)) (hOf (t - 1)) (256 * qbOf (t - 1)) ((y 0).val - 64 * ((t - 1) % 4)) (y 1).val hy1 (by omega) hp.scores hp.maxes h5
      unfold shift8 at hr
      rw [hs.1, hs.2] at hr
      rw [hr]
      unfold Quo
      have e1 : 4 * gOf (t - 1) + (y 0).val / 64 = hOf (t - 1) := by
        unfold hOf tileOf; omega
      have e2 : (y 0).val % 64 = (y 0).val - 64 * ((t - 1) % 4) := by omega
      rw [e1, e2]
    · rw [if_neg (fun hh => hin hh.1)] at hr
      rw [hr, hp.rows (by omega) y (by omega)]
      have e1 : gOf (t - 1 - 1) = gOf (t - 1) := by unfold gOf tileOf; omega
      have e2 : qbOf (t - 1 - 1) = qbOf (t - 1) := by unfold qbOf tileOf; omega
      rw [e1, e2]
  have hU : ∀ n j, n < 32768 → j < 256 → sc (i 0).val x1 x2 x3 x4 n j = U A (gOf t) (hOf t) n (256 * qbOf t + j) := by
    intro n j hn hj
    rw [hi]
    exact sc_gen A t x1 x2 x3 x4 h1 h2 h3 h4 n j hn hj
  refine ⟨⟨fun y => (h.scores y).trans (hU _ _ (y 0).isLt (y 1).isLt), fun y => Mx_of A _ _ _ _ fun z => (h.maxes y z).trans ?_, hrows⟩, ?_⟩
  · refine forall_congr' fun n => forall_congr' fun hn => ?_
    rw [hU n _ hn (y 1).isLt]
  · intro hk y
    have hy1 : (y 1).val < 256 := (y 1).isLt
    have hg : gOf (t - 1) < 8 := by unfold gOf tileOf; omega
    rw [h.out (by rw [hi]; exact hk) y, hrows (by omega) (ix2 (y 1) (y 0)) (by show (y 1).val < _; omega), h6]
    show Quo A (gOf (t - 1)) (4 * gOf (t - 1) + (y 1).val / 64) ((y 1).val % 64) (256 * qbOf (t - 1) + (y 0).val) * at1 A.vs (64 * gOf (t - 1) + (y 1).val % 64) = _
    unfold Out
    have e1 : (256 * gOf (t - 1) + (y 1).val) / 256 = gOf (t - 1) := by omega
    have e2 : (256 * gOf (t - 1) + (y 1).val) / 64 = 4 * gOf (t - 1) + (y 1).val / 64 := by omega
    have e3 : (256 * gOf (t - 1) + (y 1).val) % 64 = (y 1).val % 64 := by omega
    rw [e1, e2, e3]

end Cert.KernelIdeal.Val

end
-- ==== Proof.Ideal.ValueRun.lean ====
/- The run of the attention call with its result named: every execution ends, the argument arrays end unchanged, and the result holds, entry
   by entry, what the specification says. -/
module

public import proofs.«01_k».proof.Proof.Ideal.Inv
public import proofs.«01_k».proof.Proof.Ideal.FrameRun

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.KernelIdeal.Hand (cond2_iff PhiA_eq defs₀_row)

local notation "𝕄" => MT nD τ sig Unit (Elt Ideal) ℕ (UR sig nD τ) ℕ

variable (m : (ℓ : Loc nD τ sig) → Buf (Elt Ideal) ℓ) (ρ : Dev nD → PrngReg)

/-- The result array, entry by entry. -/
def outArr (c : Dev nD) : S32768x2048.Idx → EReal := fun y => Out (argsOf m c) (y 0).val (y 1).val

/-- The scratch before point `n`: what the points before it left. -/
def S (c : Dev nD) (n : ℕ) : sProp 𝕄 :=
  iprop((∃ (X8 : Vec Ideal S32768x256 .f32) (X9 : Vec Ideal S256x256 .f32) (X10 : Vec Ideal S1x256 .f32) (X11 : Vec Ideal S64x256 .f32) (X12 : Vec Ideal S256x256 .f32),
    owns (c : Thread nD τ) (Memref.whole cc0_scratch0) fullShare X8 ∗ owns (c : Thread nD τ) (Memref.whole cc0_scratch1) fullShare X9
      ∗ owns (c : Thread nD τ) (Memref.whole cc0_scratch2) fullShare X10 ∗ owns (c : Thread nD τ) (Memref.whole cc0_scratch3) fullShare X11
      ∗ owns (c : Thread nD τ) (Memref.whole cc0_scratch4) fullShare X12 ∗ ⌜n ≠ 0 → Inv (argsOf m c) (n - 1) X8 X10 X12⌝) ∗ ∃ r, prngReg c r)

/-- The proof data: each input's buffer keeps its block, the result's holds its block of the result. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => ((cfg0.win 6).blk t).view.read (Elt Ideal) (outArr m c)
  Φ t := S m c t.val
  q _ := fullShare
  owed _ := 0

/-- The proof data's arrays are those the region finds. -/
theorem A_eq (c : Dev nD) (w : Fin cfg0.W) : (dats m 0 c).A w = V m c (Pipeline.arrRef spec0 w) := by
  dsimp only [dats]

/-- The body leaves the query scales' staging buffer holding its block. -/
theorem after_0 (c : Dev nD) (t : Fin cfg0.N) : (dats m 0 c).after 0 t = iblk m c 0 t := by dsimp only [dats]
/-- The body leaves the key scales' staging buffer holding its block. -/
theorem after_1 (c : Dev nD) (t : Fin cfg0.N) : (dats m 0 c).after 1 t = iblk m c 1 t := by dsimp only [dats]
/-- The body leaves the query codes' staging buffer holding its block. -/
theorem after_2 (c : Dev nD) (t : Fin cfg0.N) : (dats m 0 c).after 2 t = iblk m c 2 t := by dsimp only [dats]
/-- The body leaves the key codes' staging buffer holding its block. -/
theorem after_3 (c : Dev nD) (t : Fin cfg0.N) : (dats m 0 c).after 3 t = iblk m c 3 t := by dsimp only [dats]
/-- The body leaves the value codes' staging buffer holding its block. -/
theorem after_4 (c : Dev nD) (t : Fin cfg0.N) : (dats m 0 c).after 4 t = iblk m c 4 t := by dsimp only [dats]
/-- The body leaves the value scales' staging buffer holding its block. -/
theorem after_5 (c : Dev nD) (t : Fin cfg0.N) : (dats m 0 c).after 5 t = iblk m c 5 t := by dsimp only [dats]
/-- The body leaves the result's staging buffer holding the specified array's block. -/
theorem after_6 (c : Dev nD) (t : Fin cfg0.N) : (dats m 0 c).after 6 t = ((cfg0.win 6).blk t).view.read (Elt Ideal) (outArr m c) := by dsimp only [dats]
/-- The body finds the query scales' staging buffer holding its block. -/
theorem before_0 (c : Dev nD) (t : Fin cfg0.N) (d) : (dats m 0 c).before 0 t d = iblk m c 0 t :=
  before0_0_of m (dats m 0 c) (A_eq m c 0) (after_0 m c) t d
/-- The body finds the key scales' staging buffer holding its block. -/
theorem before_1 (c : Dev nD) (t : Fin cfg0.N) (d) : (dats m 0 c).before 1 t d = iblk m c 1 t :=
  before0_1_of m (dats m 0 c) (A_eq m c 1) (after_1 m c) t d
/-- The body finds the query codes' staging buffer holding its block. -/
theorem before_2 (c : Dev nD) (t : Fin cfg0.N) (d) : (dats m 0 c).before 2 t d = iblk m c 2 t :=
  before0_2_of m (dats m 0 c) (A_eq m c 2) (after_2 m c) t d
/-- The body finds the key codes' staging buffer holding its block. -/
theorem before_3 (c : Dev nD) (t : Fin cfg0.N) (d) : (dats m 0 c).before 3 t d = iblk m c 3 t :=
  before0_3_of m (dats m 0 c) (A_eq m c 3) (after_3 m c) t d
/-- The body finds the value codes' staging buffer holding its block. -/
theorem before_4 (c : Dev nD) (t : Fin cfg0.N) (d) : (dats m 0 c).before 4 t d = iblk m c 4 t :=
  before0_4_of m (dats m 0 c) (A_eq m c 4) (after_4 m c) t d
/-- The body finds the value scales' staging buffer holding its block. -/
theorem before_5 (c : Dev nD) (t : Fin cfg0.N) (d) : (dats m 0 c).before 5 t d = iblk m c 5 t :=
  before0_5_of m (dats m 0 c) (A_eq m c 5) (after_5 m c) t d

/-- The scratch's assertion before a grid point, -/
theorem Phi_castSucc (c : Dev nD) (t : Fin cfg0.N) : (dats m 0 c).Φ t.castSucc = S m c t.val := by
  dsimp only [dats]; exact Pipeline.Dat.Φ_castSucc (fun n _ => S m c n) t

/-- and after it. -/
theorem Phi_succ (c : Dev nD) (t : Fin cfg0.N) : (dats m 0 c).Φ t.succ = S m c (t.val + 1) := by
  dsimp only [dats]; exact congrArg (S m c) (Fin.val_succ t)

/-- The result's block at a point. -/
theorem blk_out (c : Dev nD) (t : Fin cfg0.N) (y : S256x256.Idx) :
    ((cfg0.win 6).blk t).view.read (Elt Ideal) (outArr m c) y = Out (argsOf m c) (256 * qbOf (t.val - 1) + (y 0).val) (256 * gOf (t.val - 1) + (y 1).val) := by
  rw [View.read_apply]
  show Out (argsOf m c) (win0_6.index t 0 * 256 + 1 * (y 0).val) (win0_6.index t 1 * 256 + 1 * (y 1).val) = _
  rw [(index6 t).1, (index6 t).2, Nat.one_mul, Nat.one_mul, Nat.mul_comm (qbOf _), Nat.mul_comm (gOf _)]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- how it leaves the result's buffer: at its block where the block is written back, untouched elsewhere, -/
def post6 (c : Dev nD) (t : Fin cfg0.N) : sProp 𝕄 :=
  match cfg0.idle 6 (cfg0.grid.coords t) with
  | true => match (cfg0.win 6).flush t with
    | false => iprop(∃ d, owns (c : Thread nD τ) (st0_6 t) fullShare ((dats m 0 c).before 6 t d))
    | true => owns (c : Thread nD τ) (st0_6 t) fullShare ((dats m 0 c).after 6 t)
  | false => owns (c : Thread nD τ) (st0_6 t) fullShare ((dats m 0 c).after 6 t)

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ post6 m c t)

/-- What a grid point leaves in the result's staging buffer, as the proof data asks it: the result's block where the point writes back, anything elsewhere. -/
theorem post6_of (c : Dev nD) (t : Fin cfg0.N) (d) (X7 : Vec Ideal S256x256 .bf16)
    (hkept : (t.val - 1) % 4 ≠ 3 → X7 = (dats m 0 c).before 6 t d)
    (hout : (t.val - 1) % 4 = 3 → ∀ y, X7 y = Out (argsOf m c) (256 * qbOf (t.val - 1) + (y 0).val) (256 * gOf (t.val - 1) + (y 1).val)) :
    owns (c : Thread nD τ) (st0_6 t) fullShare X7 ⊢ post6 m c t := by
  unfold post6
  by_cases hk : (t.val - 1) % 4 = 3
  · have hi : cfg0.idle 6 (cfg0.grid.coords t) = false := by
      show (!(k0_cond2 (grid0.coords t) == 1#1)) = false
      rw [(cond2_iff (grid0.coords t)).2 (by rw [coords_val]; exact hk)]
      rfl
    rw [hi]
    have e : X7 = (dats m 0 c).after 6 t := by
      rw [after_6]
      exact funext fun y => (hout hk y).trans (blk_out m c t y).symm
    rw [e]
  · have hi : cfg0.idle 6 (cfg0.grid.coords t) = true := by
      show (!(k0_cond2 (grid0.coords t) == 1#1)) = true
      have hne : k0_cond2 (grid0.coords t) ≠ 1#1 := fun h => hk (by
        have := (cond2_iff (grid0.coords t)).1 h
        rw [coords_val] at this; exact this)
      rw [beq_eq_false_iff_ne.2 hne]
      rfl
    have hf : (cfg0.win 6).flush t = false := by
      rw [← Bool.not_eq_true]
      exact fun h => hk ((flush6 t).1 h).2
    rw [hi, hf, hkept hk]
    show _ ⊢ iprop(∃ d, owns (c : Thread nD τ) (st0_6 t) fullShare ((dats m 0 c).before 6 t d))
    iintro H
    iexists d
    iexact H

/-- The body meets the proof data at every grid point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5]
  rw [Phi_succ, Phi_castSucc, show (dats m 0 c).owesAt () t.succ = (dats m 0 c).owesAt () t.castSucc from rfl,
    after_0, after_1, after_2, after_3, after_4, after_5]
  unfold S
  iintro ⟨⟨⟨%d8, %d9, %d10, %d11, %d12, HS0, HS1, HS2, HS3, HS4, %hprev⟩, HP⟩, Ho, ⟨%d0, H0⟩, ⟨%d1, H1⟩, ⟨%d2, H2⟩, ⟨%d3, H3⟩, ⟨%d4, H4⟩, ⟨%d5, H5⟩, ⟨%d6, H6⟩⟩
  iapply (body_val c Set.univ _ _ _ _ _ _ _ _ _ _ _ _ _ _ _ _ _ _ _ _ _ _ _ _ _ (iblk m c 0 t) (iblk m c 1 t) (iblk m c 2 t) (iblk m c 3 t) (iblk m c 4 t) (iblk m c 5 t) ((dats m 0 c).before 6 t d6) d8 d9 d10 d11 d12 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%X7, %X8, %X9, %X10, %X11, %X12, H6, HS0, HS1, HS2, HS3, HS4, %hrel⟩⟩
  have hstep := inv_step (argsOf m c) (grid0.coords t) t.val (coords_val t) (by have hN : grid0.N = 4097 := N_0; have h : t.val < grid0.N := t.isLt; omega) (iblk m c 0 t) (iblk m c 1 t) (iblk m c 2 t) (iblk m c 3 t) (iblk m c 4 t) (iblk m c 5 t)
    ((dats m 0 c).before 6 t d6) d8 d10 d12 X7 X8 X10 X12 (blk_qs m c t) (blk_ks m c t) (blk_q m c t) (blk_k m c t) (blk_v m c t) (blk_vs m c t) hprev hrel
  have h6 := post6_of m c t d6 X7 (fun hk => hrel.kept (by rw [coords_val]; exact hk)) hstep.2
  isplitl [HS0 HS1 HS2 HS3 HS4 HP]
  · isplitl [HS0 HS1 HS2 HS3 HS4]
    · iexists X8, X9, X10, X11, X12
      isplitl [HS0]; · iexact HS0
      isplitl [HS1]; · iexact HS1
      isplitl [HS2]; · iexact HS2
      isplitl [HS3]; · iexact HS3
      isplitl [HS4]; · iexact HS4
      ipureintro
      exact fun _ => hstep.1
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply h6
  iexact H6

/-- The body's obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The scratch at the start. -/
theorem S_in (c : Dev nD) : Pipeline.ΦA spec0 c ⊢ S m c 0 := by
  rw [PhiA_eq]
  unfold S
  iintro ⟨⟨⟨%X8, H0⟩, ⟨%X9, H1⟩, ⟨%X10, H2⟩, ⟨%X11, H3⟩, ⟨%X12, H4⟩⟩, HP⟩
  isplitl [H0 H1 H2 H3 H4]
  · iexists X8, X9, X10, X11, X12
    isplitl [H0]; · iexact H0
    isplitl [H1]; · iexact H1
    isplitl [H2]; · iexact H2
    isplitl [H3]; · iexact H3
    isplitl [H4]; · iexact H4
    ipureintro
    exact fun h => absurd rfl h
  iexact HP

/-- The scratch at the end. -/
theorem S_out (c : Dev nD) (n : ℕ) : S m c n ⊢ Pipeline.ΦA spec0 c := by
  rw [PhiA_eq]
  unfold S
  iintro ⟨⟨%X8, %X9, %X10, %X11, %X12, H0, H1, H2, H3, H4, -⟩, HP⟩
  isplitl [H0 H1 H2 H3 H4]
  · isplitl [H0]; · iexists X8; iexact H0
    isplitl [H1]; · iexists X9; iexact H1
    isplitl [H2]; · iexists X10; iexact H2
    isplitl [H3]; · iexists X11; iexact H3
    iexists X12; iexact H4
  iexact HP

set_option backward.isDefEq.respectTransparency.types false in
set_option maxHeartbeats 800000 in
/-- The launch: every execution ends, each array at what the proof data says. -/
theorem run_main : θ_run defs (onTc (τ := τ) (main (F := Ideal))) (s₀ m ρ) (Pipeline.FramePost cfgs (dats m) 0 (V m)) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => S_in m c) (hout := fun c => S_out m c _)

/-! ## The result array -/

/-- What a grid point writes back is the specified array's block. -/
theorem flushed_eq (c : Dev nD) (t : Fin cfg0.N) (hf : (cfg0.win 6).flush t = true) :
    (dats m 0 c).flushed 6 t = ((cfg0.win 6).blk t).view.read (Elt Ideal) (outArr m c) := by
  show (cfg0.win 6).cut (grid0.coords t) ((dats m 0 c).after 6 t) = _
  rw [after_6]

/-- The point at which an entry of the result is written. -/
theorem covered (i : S32768x2048.Idx) : ∃ t : Fin cfg0.N, (cfg0.win 6).flush t = true ∧ i ∈ ((cfg0.win 6).blk t).view.set := by
  have h0 : (i 0).val < 32768 := (i 0).isLt
  have h1 : (i 1).val < 2048 := (i 1).isLt
  have hN : grid0.N = 4097 := N_0
  have hlt : 512 * ((i 1).val / 256) + 4 * ((i 0).val / 256) + 4 < grid0.N := by rw [hN]; omega
  obtain ⟨t, ht⟩ : ∃ t : Fin grid0.N, t.val = 512 * ((i 1).val / 256) + 4 * ((i 0).val / 256) + 4 := ⟨⟨_, hlt⟩, rfl⟩
  have e0 : qbOf (t.val - 1) = (i 0).val / 256 := by unfold qbOf tileOf; omega
  have e1 : gOf (t.val - 1) = (i 1).val / 256 := by unfold gOf tileOf; omega
  refine ⟨t, (flush6 t).2 ⟨by omega, by omega⟩, ?_⟩
  show i ∈ ((View.whole main_v8).slice (win0_6.rect t)).set
  rw [View.set_slice_whole, Rect.mem_set_unit]
  intro a
  match a with
  | ⟨0, _⟩ =>
    show win0_6.index t 0 * 256 ≤ (i 0).val ∧ (i 0).val < win0_6.index t 0 * 256 + 256
    rw [(index6 t).1, e0]; omega
  | ⟨1, _⟩ =>
    show win0_6.index t 1 * 256 ≤ (i 1).val ∧ (i 1).val < win0_6.index t 1 * 256 + 256
    rw [(index6 t).2, e1]; omega

/-- The result array after the run is the specified array. -/
theorem result_eq (c : Dev nD) : (dats m 0 c).arrAt 6 cfg0.N = outArr m c :=
  (dats m 0 c).arrAt_eq_of_cover 6 (outArr m c) (flushed_eq m c) fun i => covered i

/-- The run: the result is the specified array, the arguments end unchanged. -/
theorem run_value : θ_run defs (onTc (τ := τ) (main (F := Ideal))) ⟨m, fun _ => 0, ρ⟩ (fun r => ∀ c : Dev nD,
      r.2.mem ((c.tc : Thread nD τ).loc main_v8) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (result_eq m c),
      ((h c).1 2).trans (((dats m 0 c).arrAt_in 2 rfl _).trans ((A_eq m c 2).trans (V_main_arg0 m c))),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩) (run_main m ρ)

end Cert.KernelIdeal.Val

end
-- ==== Proof.Ref.Pay.lean ====
/- What the reference's body computes, entry by entry, from the arrays it is called with. -/
module

public import proofs.«01_k».proof.Proof.Gen.ReferenceIdeal.Value
public import Idealize.ShloMosaic.Lib.Pointwise

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen

/-- The word of minus infinity. -/
theorem neg_inf : Ideal.ofBits .f32 0xFF800000#32 = ⊥ := by simp [Ideal.ofBits, Ideal.ieee]

/-! The arrays the body is called with, as functions of two numbers: the query codes `q`, the key codes `k`, the value codes `v`, the scale `a`
of a query head's row, the scale `b` of a query head's key row, and the scale `w` of a query head's value column. -/
variable (q k v a b w : ℕ → ℕ → EReal)

/-- The score of key row `n` for row `r` of query head `h`. -/
def S (h r n : ℕ) : EReal :=
  (∑ d ∈ Finset.range 64, q r (h * 64 + d) * k n (h / 4 * 64 + d)) * a h r * b h n * Ideal.ofBits .f32 0x3E000000#32

/-- Its exponential, under the largest of the row. -/
def E (h r n : ℕ) : EReal := Ideal.exp (S q k a b h r n - (Finset.range 32768).sup (S q k a b h r))

/-- The result's entry at row `r` and column `x`. -/
def Out (r x : ℕ) : EReal :=
  Ideal.div ((∑ n ∈ Finset.range 32768, min (E q k a b (x / 64) r n * Ideal.ofBits .f32 0x43800000#32) (Ideal.ofBits .f32 0x43E00000#32)
      * v (x / 64 / 4 * 64 + x % 64) n) * w (x / 64) (x % 64) * Ideal.ofBits .f32 0x3B800000#32)
    (∑ n ∈ Finset.range 32768, E q k a b (x / 64) r n)

variable (P0 : Vec Ideal S32768x2048 .fp8e4m3) (P1 : Vec Ideal S32768x512 .fp8e4m3) (P2 : Vec Ideal S512x32768 .fp8e4m3)
  (P3 : Vec Ideal S32x32768x1 .f32) (P4 : Vec Ideal S32x1x32768 .f32) (P5 : Vec Ideal S32x1x64 .f32)

/-- The largest entry of a finite family, as the largest over a range of numbers. -/
theorem fold_max (N : ℕ) (f : Fin N → EReal) (g : ℕ → EReal) (h : ∀ i : Fin N, f i = g i.val) :
    Finset.fold max ⊥ f Finset.univ = (Finset.range N).sup g := by
  show Finset.univ.sup f = _
  refine le_antisymm (Finset.sup_le fun i _ => ?_) (Finset.sup_le fun n hn => ?_)
  · rw [h]; exact Finset.le_sup (f := g) (Finset.mem_range.2 i.isLt)
  · rw [← h ⟨n, Finset.mem_range.1 hn⟩]; exact Finset.le_sup (f := f) (Finset.mem_univ _)

/-- A sum over a finite family, as a sum over a range of numbers. -/
theorem sum_fin (N : ℕ) (f : Fin N → EReal) (g : ℕ → EReal) (h : ∀ i : Fin N, f i = g i.val) :
    ∑ i, f i = ∑ n ∈ Finset.range N, g n := by
  rw [← Fin.sum_univ_eq_sum_range g N]; exact Finset.sum_congr rfl fun i _ => h i

/-- The body's exponentials. -/
theorem pay2_apply (h0 : ∀ y, P0 y = q (y 0).val (y 1).val) (h1 : ∀ y, P1 y = k (y 0).val (y 1).val)
    (h3 : ∀ y, P3 y = a (y 0).val (y 1).val) (h4 : ∀ y, P4 y = b (y 0).val (y 2).val) (y : S32x32768x32768.Idx) :
    k0_pay2 P0 P1 P3 P4 y = E q k a b (y 0).val (y 1).val (y 2).val := by
  pointwise [k0_pay2]
  rw [neg_inf]
  unfold E
  simp only [h0, h1, h3, h4]
  have hs : ∀ n : Fin 32768, (∑ x : Fin 64, q (y 1).val ((y 0).val * 64 + x.val) * k n.val ((y 0).val / 4 * 64 + x.val)) * a (y 0).val (y 1).val
      * b (y 0).val n.val * Ideal.ofBits .f32 0x3E000000#32 = S q k a b (y 0).val (y 1).val n.val := by
    intro n
    unfold S
    rw [sum_fin 64 _ (fun d => q (y 1).val ((y 0).val * 64 + d) * k n.val ((y 0).val / 4 * 64 + d)) fun _ => rfl]
  refine congrArg Ideal.exp (congrArg₂ (fun s M : EReal => s - M) (hs (y 2)) (fold_max 32768 _ _ hs))

/-- The body's sums of value codes, weighted by the codes of the probabilities. -/
theorem pay4_apply (h0 : ∀ y, P0 y = q (y 0).val (y 1).val) (h1 : ∀ y, P1 y = k (y 0).val (y 1).val) (h2 : ∀ y, P2 y = v (y 0).val (y 1).val)
    (h3 : ∀ y, P3 y = a (y 0).val (y 1).val) (h4 : ∀ y, P4 y = b (y 0).val (y 2).val) (y : S32x32768x64.Idx) :
    k0_pay4 P0 P1 P2 P3 P4 y = ∑ n ∈ Finset.range 32768,
      min (E q k a b (y 0).val (y 1).val n * Ideal.ofBits .f32 0x43800000#32) (Ideal.ofBits .f32 0x43E00000#32) * v ((y 0).val / 4 * 64 + (y 2).val) n := by
  pointwise [k0_pay4]
  refine sum_fin 32768 _ _ fun n => ?_
  rw [pay2_apply q k a b P0 P1 P3 P4 h0 h1 h3 h4, h2]
  rfl

/-- The body's sums of the exponentials. -/
theorem sum_apply (h0 : ∀ y, P0 y = q (y 0).val (y 1).val) (h1 : ∀ y, P1 y = k (y 0).val (y 1).val)
    (h3 : ∀ y, P3 y = a (y 0).val (y 1).val) (h4 : ∀ y, P4 y = b (y 0).val (y 2).val) (y : S32x32768.Idx) :
    multiReduction .add [2] S32x32768 (k0_pay2 P0 P1 P3 P4) 0x00000000#32 reduces_S32x32768x32768_S32x32768 (.inl rfl) rfl y
      = ∑ n ∈ Finset.range 32768, E q k a b (y 0).val (y 1).val n := by
  pointwise []
  refine sum_fin 32768 _ _ fun n => ?_
  rw [pay2_apply q k a b P0 P1 P3 P4 h0 h1 h3 h4]
  rfl

/-- The body's result, entry by entry. -/
theorem E6_apply (h0 : ∀ y, P0 y = q (y 0).val (y 1).val) (h1 : ∀ y, P1 y = k (y 0).val (y 1).val) (h2 : ∀ y, P2 y = v (y 0).val (y 1).val)
    (h3 : ∀ y, P3 y = a (y 0).val (y 1).val) (h4 : ∀ y, P4 y = b (y 0).val (y 2).val) (h5 : ∀ y, P5 y = w (y 0).val (y 2).val) (y : S32768x2048.Idx) :
    Value.E6 P0 P1 P2 P3 P4 P5 y = Out q k v a b w (y 0).val (y 1).val := by
  unfold Out
  refine congrArg₂ Ideal.div (congrArg₂ (fun s t : EReal => s * t * Ideal.ofBits .f32 0x3B800000#32) ?_ ?_) ?_
  · exact pay4_apply q k v a b P0 P1 P2 P3 P4 h0 h1 h2 h3 h4 _
  · exact h5 _
  · exact sum_apply q k a b P0 P1 P3 P4 h0 h1 h3 h4 _

end Cert.ReferenceIdeal.Val

end
-- ==== Proof.Ref.Value.lean ====
/- The reference's run with its value: what the arrays the host prepares hold, and what the result holds in terms of the argument arrays. -/
module

public import proofs.«01_k».proof.Proof.Ref.Pay
public import Idealize.ShloMosaic.Lib.Affine

@[expose] public section

set_option maxRecDepth 16384

noncomputable section

namespace Cert.ReferenceIdeal.Val

open Idealize.ShloMosaic Idealize.ShloMosaic.TcCoe Idealize.ShloMosaic.Tactic Idealize.SL.Sem
open Cert.ReferenceIdeal Cert.ReferenceIdeal.Gen
open Idealize.ShloMosaic.Pipeline (Dat Cfg Window)

/-- A matrix at a row and a column given as numbers; 0 outside it. -/
def mat {R C : ℕ} (x : (⟨2, ![R, C]⟩ : Shape).Idx → EReal) (r c : ℕ) : EReal :=
  if h : r < R ∧ c < C then x (ix2 ⟨r, h.1⟩ ⟨c, h.2⟩) else 0

/-- A vector at a place given as a number; 0 outside it. -/
def vec {R : ℕ} (x : (⟨1, ![R]⟩ : Shape).Idx → EReal) (r : ℕ) : EReal := if h : r < R then x (ix1 ⟨r, h⟩) else 0

/-- A matrix's entry at an index is its entry at the index's two numbers. -/
theorem mat_of {R C : ℕ} (x : (⟨2, ![R, C]⟩ : Shape).Idx → EReal) (y : (⟨2, ![R, C]⟩ : Shape).Idx) (r c : ℕ) (h0 : (y 0).val = r) (h1 : (y 1).val = c) :
    x y = mat x r c := by
  subst h0 h1
  have h0 : (y 0).val < R := (y 0).isLt
  have h1 : (y 1).val < C := (y 1).isLt
  unfold mat
  rw [dif_pos ⟨h0, h1⟩]
  exact congrArg x (funext fun a => by fin_cases a <;> rfl)

/-- A vector's entry at an index is its entry at the index's number. -/
theorem vec_of {R : ℕ} (x : (⟨1, ![R]⟩ : Shape).Idx → EReal) (y : (⟨1, ![R]⟩ : Shape).Idx) (r : ℕ) (h : (y 0).val = r) : x y = vec x r := by
  subst h
  have h0 : (y 0).val < R := (y 0).isLt
  unfold vec
  rw [dif_pos h0]
  exact congrArg x (funext fun a => by fin_cases a; rfl)

variable (m : (ℓ : Loc nD τ sig) → Buf (Elt Ideal) ℓ) (ρ : Dev nD → PrngReg) (c : Dev nD)

/-! ## The argument arrays -/

/-- The query codes, -/
abbrev aq : S32768x2048.Idx → EReal := m ((c.tc : Thread nD τ).loc main_arg0)
/-- their scales, -/
abbrev aqs : S256x32.Idx → EReal := m ((c.tc : Thread nD τ).loc main_arg1)
/-- the key codes, -/
abbrev ak : S32768x512.Idx → EReal := m ((c.tc : Thread nD τ).loc main_arg2)
/-- their scales, -/
abbrev aks : S256x8.Idx → EReal := m ((c.tc : Thread nD τ).loc main_arg3)
/-- the transposed value codes, -/
abbrev av : S512x32768.Idx → EReal := m ((c.tc : Thread nD τ).loc main_arg4)
/-- and their scales. -/
abbrev avs : S512.Idx → EReal := m ((c.tc : Thread nD τ).loc main_arg5)

/-! ## The arrays the host prepares -/

/-- Each query row's scale, one column per query head. -/
theorem V_rows (y : S32x32768x1.Idx) : V m c main_v3 y = mat (aqs m c) ((y 1).val / 128) (y 0).val := by
  have h : V m c main_v3 = broadcastInDim S32x32768x1 ![0, 1] bcast_S32x32768_S32x32768x1_0_1 (transpose S32x32768 [1, 0]
      (shapeCast S32768x32 (broadcastInDim S256x128x32 ![0, 2] bcast_S256x32_S256x128x32_0_2 (aqs m c)) shapeCasts_S256x128x32_S32768x32) transposes_S32768x32_S32x32768_1_0) := by
    show StableHlo.after hostOps0 _ (Proc.devRef .tc main_v3) = _
    after_results
    rfl
  rw [h]
  pointwise []
  exact mat_of _ _ _ _ (by dsimp [ix2]; try omega) (by dsimp [ix2]; try omega)

/-- Each key row's scale, one row per query head. -/
theorem V_keys (y : S32x1x32768.Idx) : V m c main_v10 y = mat (aks m c) ((y 2).val / 128) ((y 0).val / 4) := by
  have h : V m c main_v10 = shapeCast S32x1x32768 (broadcastInDim S8x4x1x32768 ![0, 2, 3] bcast_S8x1x32768_S8x4x1x32768_0_2_3
      (broadcastInDim S8x1x32768 ![0, 2] bcast_S8x32768_S8x1x32768_0_2 (transpose S8x32768 [1, 0]
        (shapeCast S32768x8 (broadcastInDim S256x128x8 ![0, 2] bcast_S256x8_S256x128x8_0_2 (aks m c)) shapeCasts_S256x128x8_S32768x8) transposes_S32768x8_S8x32768_1_0)))
      shapeCasts_S8x4x1x32768_S32x1x32768 := by
    show StableHlo.after hostOps0 _ (Proc.devRef .tc main_v10) = _
    after_results
    rfl
  rw [h]
  pointwise []
  exact mat_of _ _ _ _ (by dsimp [ix2]; try omega) (by dsimp [ix2]; try omega)

/-- Each value column's scale, one row per query head. -/
theorem V_vals (y : S32x1x64.Idx) : V m c main_v12 y = vec (avs m c) ((y 0).val / 4 * 64 + (y 2).val) := by
  have h : V m c main_v12 = shapeCast S32x1x64 (broadcastInDim S8x4x1x64 ![0, 2, 3] bcast_S8x1x64_S8x4x1x64_0_2_3
      (shapeCast S8x1x64 (avs m c) shapeCasts_S512_S8x1x64)) shapeCasts_S8x4x1x64_S32x1x64 := by
    show StableHlo.after hostOps0 _ (Proc.devRef .tc main_v12) = _
    after_results
    rfl
  rw [h]
  pointwise []
  exact vec_of _ _ _ (by dsimp [ix1]; try omega)

/-! ## The blocks: each window's one block is its whole array -/

/-- The one grid point. -/
def t₀ : Fin cfg0.N := ⟨0, by decide⟩

/-- The query codes' block, -/
theorem blk_q : iblk m c 0 t₀ = V m c main_arg0 := by
  have hz : (fun a => (win0_0.index t₀) a * main_arg0.ty.shape.size a) = fun _ => 0 := funext fun a => by fin_cases a <;> decide
  exact Memref.read_access_unit_zero (Elt Ideal) main_arg0 hz (fun a => by fin_cases a <;> decide) _

/-- the key codes', -/
theorem blk_k : iblk m c 1 t₀ = V m c main_arg2 := by
  have hz : (fun a => (win0_1.index t₀) a * main_arg2.ty.shape.size a) = fun _ => 0 := funext fun a => by fin_cases a <;> decide
  exact Memref.read_access_unit_zero (Elt Ideal) main_arg2 hz (fun a => by fin_cases a <;> decide) _

/-- the value codes', -/
theorem blk_v : iblk m c 2 t₀ = V m c main_arg4 := by
  have hz : (fun a => (win0_2.index t₀) a * main_arg4.ty.shape.size a) = fun _ => 0 := funext fun a => by fin_cases a <;> decide
  exact Memref.read_access_unit_zero (Elt Ideal) main_arg4 hz (fun a => by fin_cases a <;> decide) _

/-- the query scales', -/
theorem blk_rows : iblk m c 3 t₀ = V m c main_v3 := by
  have hz : (fun a => (win0_3.index t₀) a * main_v3.ty.shape.size a) = fun _ => 0 := funext fun a => by fin_cases a <;> decide
  exact Memref.read_access_unit_zero (Elt Ideal) main_v3 hz (fun a => by fin_cases a <;> decide) _

/-- the key scales', -/
theorem blk_keys : iblk m c 4 t₀ = V m c main_v10 := by
  have hz : (fun a => (win0_4.index t₀) a * main_v10.ty.shape.size a) = fun _ => 0 := funext fun a => by fin_cases a <;> decide
  exact Memref.read_access_unit_zero (Elt Ideal) main_v10 hz (fun a => by fin_cases a <;> decide) _

/-- and the value scales'. -/
theorem blk_vals : iblk m c 5 t₀ = V m c main_v12 := by
  have hz : (fun a => (win0_5.index t₀) a * main_v12.ty.shape.size a) = fun _ => 0 := funext fun a => by fin_cases a <;> decide
  exact Memref.read_access_unit_zero (Elt Ideal) main_v12 hz (fun a => by fin_cases a <;> decide) _

/-! ## The result -/

/-- The body's result from the whole arrays. -/
theorem out_eq (P0 : Vec Ideal S32768x2048 .fp8e4m3) (P1 : Vec Ideal S32768x512 .fp8e4m3) (P2 : Vec Ideal S512x32768 .fp8e4m3)
    (P3 : Vec Ideal S32x32768x1 .f32) (P4 : Vec Ideal S32x1x32768 .f32) (P5 : Vec Ideal S32x1x64 .f32) : out0_6 P0 P1 P2 P3 P4 P5 = Value.E6 P0 P1 P2 P3 P4 P5 := by
  unfold out0_6
  rw [View.ld_unit_zero (S := S32768x2048) (by funext a; fin_cases a <;> rfl), View.ld_unit_zero (S := S32768x512) (by funext a; fin_cases a <;> rfl),
    View.ld_unit_zero (S := S512x32768) (by funext a; fin_cases a <;> rfl), View.ld_unit_zero (S := S32x32768x1) (by funext a; fin_cases a <;> rfl),
    View.ld_unit_zero (S := S32x1x32768) (by funext a; fin_cases a <;> rfl), View.ld_unit_zero (S := S32x1x64) (by funext a; fin_cases a <;> rfl)]
  exact funext fun y => Value.canon6_eq P0 P1 P2 P3 P4 P5 y

/-- The array the reference computes from its arguments. -/
def outArr : S32768x2048.Idx → EReal := fun y =>
  Out (mat (aq m c)) (mat (ak m c)) (mat (av m c)) (fun h r => mat (aqs m c) (r / 128) h) (fun h n => mat (aks m c) (n / 128) (h / 4))
    (fun h d => vec (avs m c) (h / 4 * 64 + d)) (y 0).val (y 1).val

/-- The result array after the run. -/
theorem final_value : (dats m 0 c).arrAt 6 cfg0.N = outArr m c := by
  have ho := Value.blocks6 m c t₀ (by decide)
  have hz : (fun a => (win0_6.index t₀) a * main_v13.ty.shape.size a) = fun _ => 0 := funext fun a => by fin_cases a <;> decide
  have hr := fun f => Memref.read_access_unit_zero (Elt Ideal) main_v13 hz (fun a => by fin_cases a <;> decide) f
  rw [hr] at ho
  rw [ho]
  show (cfg0.win 6).cut _ ((dats m 0 c).after 6 t₀) = _
  rw [after0_6, blk_q, blk_k, blk_v, blk_rows, blk_keys, blk_vals, out_eq]
  refine funext fun (y : S32768x2048.Idx) => ?_
  refine E6_apply _ _ _ _ _ _ _ _ _ _ _ _ ?_ ?_ ?_ ?_ ?_ ?_ y
  · intro y; rw [V_main_arg0]; exact mat_of (aq m c) _ _ _ rfl rfl
  · intro y; rw [V_main_arg2]; exact mat_of (ak m c) _ _ _ rfl rfl
  · intro y; rw [V_main_arg4]; exact mat_of (av m c) _ _ _ rfl rfl
  · exact V_rows m c
  · exact V_keys m c
  · exact V_vals m c

/-- The reference's run: the result is that array, and the arguments end unchanged. -/
theorem run_value : θ_run (defs (F := Ideal)) (onTc (τ := τ) (main (F := Ideal))) ⟨m, fun _ => 0, ρ⟩ (fun r => ∀ c : Dev nD,
    r.2.mem ((c.tc : Thread nD τ).loc main_v13) = outArr m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun r h c => ⟨(h c).1.trans (final_value m c), (h c).2⟩) (Value.run_blocks m ρ)

end Cert.ReferenceIdeal.Val

end
-- ==== Proof.Softmax.lean ====
/- The mathematics of the two programs over the extended reals: a softmax in base 2, its exponents raised by eight, against a softmax in
   base e. Nothing here needs the scores to be finite. -/
module

public import Idealize.ShloMosaic.PureOps.Ideal

@[expose] public section

noncomputable section

namespace Cert.Softmax

open Idealize.ShloMosaic

/-! ## The constants -/

/-- The word of an eighth, -/
theorem bits_eighth : Ideal.ofBits .f32 0x3E000000#32 = ((1 / 8 : ℝ) : EReal) := by
  simp [Ideal.ofBits, Ideal.ieee]
  rw [← EReal.coe_mul]
  norm_num

/-- of 256, -/
theorem bits_256 : Ideal.ofBits .f32 0x43800000#32 = ((256 : ℝ) : EReal) := by
  simp [Ideal.ofBits, Ideal.ieee]
  rw [← EReal.coe_mul]
  norm_num

/-- of one over 256, -/
theorem bits_inv256 : Ideal.ofBits .f32 0x3B800000#32 = ((1 / 256 : ℝ) : EReal) := by
  simp [Ideal.ofBits, Ideal.ieee]
  rw [← EReal.coe_mul]
  norm_num

/-- of 8, -/
theorem bits_8 : Ideal.ofBits .f32 0x41000000#32 = ((8 : ℝ) : EReal) := by
  simp [Ideal.ofBits, Ideal.ieee]
  rw [← EReal.coe_mul]
  norm_num

/-- and of 448. -/
theorem bits_448 : Ideal.ofBits .f32 0x43E00000#32 = ((448 : ℝ) : EReal) := by
  simp [Ideal.ofBits, Ideal.ieee]
  rw [← EReal.coe_mul]
  norm_num

/-- One over the natural logarithm of 2. -/
def L : ℝ := (Real.log 2)⁻¹

/-- It is positive. -/
theorem L_pos : 0 < L := inv_pos.2 (Real.log_pos (by norm_num))

/-- The scale of a score in base-2 units is an eighth of that. -/
theorem scale_eq : (((Real.sqrt 64)⁻¹ * (Real.log 2)⁻¹ : ℝ) : EReal) = ((1 / 8 : ℝ) : EReal) * (L : EReal) := by
  rw [← EReal.coe_mul]
  congr 1
  rw [show (64 : ℝ) = 8 ^ 2 by norm_num, Real.sqrt_sq (by norm_num), one_div]
  rfl

/-! ## One probability -/

/-- A power of two of a scaled score, raised by eight, is 256 times the exponential of the score, infinite scores included. -/
theorem exp2_shift (s M : EReal) :
    Ideal.exp2 (s * (L : EReal) - (M * (L : EReal) - ((8 : ℝ) : EReal))) = ((256 : ℝ) : EReal) * Ideal.exp (s - M) := by
  have hL := L_pos
  induction s with
  | bot =>
    rw [EReal.bot_mul_coe_of_pos hL, EReal.bot_sub, EReal.bot_sub]
    show (0 : EReal) = _ * 0
    rw [mul_zero]
  | top =>
    rw [EReal.top_mul_coe_of_pos hL]
    induction M with
    | bot =>
      rw [EReal.bot_mul_coe_of_pos hL, EReal.bot_sub, EReal.top_sub_bot]
      show (⊤ : EReal) = _ * ⊤
      rw [EReal.coe_mul_top_of_pos (by norm_num)]
    | top =>
      rw [EReal.top_mul_coe_of_pos hL, EReal.top_sub_coe, EReal.sub_top]
      show (0 : EReal) = _ * 0
      rw [mul_zero]
    | coe M =>
      rw [← EReal.coe_mul, ← EReal.coe_sub, EReal.top_sub_coe, EReal.top_sub_coe]
      show (⊤ : EReal) = _ * ⊤
      rw [EReal.coe_mul_top_of_pos (by norm_num)]
  | coe s =>
    rw [← EReal.coe_mul]
    induction M with
    | bot =>
      rw [EReal.bot_mul_coe_of_pos hL, EReal.bot_sub, EReal.coe_sub_bot, EReal.coe_sub_bot]
      show (⊤ : EReal) = _ * ⊤
      rw [EReal.coe_mul_top_of_pos (by norm_num)]
    | top =>
      rw [EReal.top_mul_coe_of_pos hL, EReal.top_sub_coe, EReal.sub_top, EReal.sub_top]
      show (0 : EReal) = _ * 0
      rw [mul_zero]
    | coe M =>
      rw [← EReal.coe_mul, ← EReal.coe_sub, ← EReal.coe_sub, ← EReal.coe_sub]
      show ((Real.rpow 2 _ : ℝ) : EReal) = _ * ((Real.exp _ : ℝ) : EReal)
      rw [← EReal.coe_mul]
      congr 1
      show (2 : ℝ) ^ (s * L - (M * L - 8)) = _
      rw [show s * L - (M * L - 8) = L * (s - M) + 8 by ring, Real.rpow_add (by norm_num), mul_comm]
      congr 1
      · norm_num
      · rw [Real.rpow_def_of_pos (by norm_num)]
        congr 1
        unfold L
        rw [← mul_assoc, mul_inv_cancel₀ (Real.log_pos (by norm_num)).ne', one_mul]

/-- The exponential of a score under the largest is a nonnegative real number. -/
theorem exp_real (s M : EReal) (h : s ≤ M) : ∃ ρ : ℝ, 0 ≤ ρ ∧ Ideal.exp (s - M) = (ρ : EReal) := by
  induction s with
  | bot => exact ⟨0, le_rfl, by rw [EReal.bot_sub]; rfl⟩
  | top =>
    obtain rfl := top_le_iff.1 h
    exact ⟨0, le_rfl, by rw [EReal.sub_top]; rfl⟩
  | coe s =>
    induction M with
    | bot => exact absurd (le_bot_iff.1 h) (EReal.coe_ne_bot s)
    | top => exact ⟨0, le_rfl, by rw [EReal.sub_top]; rfl⟩
    | coe M => exact ⟨Real.exp (s - M), (Real.exp_pos _).le, by rw [← EReal.coe_sub]; rfl⟩

/-! ## A row -/

/-- A sum of reals among the extended reals is their sum. -/
theorem coe_sum (N : ℕ) (ρ : ℕ → ℝ) : ∑ n ∈ Finset.range N, (ρ n : EReal) = ((∑ n ∈ Finset.range N, ρ n : ℝ) : EReal) := by
  induction N with
  | zero => simp
  | succ N ih => rw [Finset.sum_range_succ, Finset.sum_range_succ, ih, EReal.coe_add]

/-- The largest of the scaled scores is the largest score, scaled. -/
theorem sup_scale (N : ℕ) (s : ℕ → EReal) :
    ((Finset.range N).sup fun n => s n * (L : EReal)) ≤ ((Finset.range N).sup s) * (L : EReal) ∧
      ∀ z, (∀ n ∈ Finset.range N, s n * (L : EReal) ≤ z) → ((Finset.range N).sup s) * (L : EReal) ≤ z := by
  have hL : (0 : EReal) < (L : EReal) := EReal.coe_pos.2 L_pos
  have key : ∀ a z : EReal, a * (L : EReal) ≤ z ↔ a ≤ z / (L : EReal) := fun a z => (EReal.le_div_iff_mul_le hL (EReal.coe_ne_top L)).symm
  refine ⟨Finset.sup_le fun n hn => ?_, fun z hz => ?_⟩
  · rw [key]
    refine (Finset.le_sup (f := s) hn).trans ?_
    rw [← key]
  · rw [key]
    exact Finset.sup_le fun n hn => (key _ _).1 (hz n hn)

/-- Dividing, then scaling by a positive factor, against scaling first: the same, whatever is divided, provided zero is divided wherever the
    divisor is zero. -/
theorem div_scale (X c T w : EReal) (hT : T = 0 → X = 0) (hw : 0 < w) : Ideal.div (X * c) T * w = Ideal.div (X * w * c) T := by
  unfold Ideal.div
  split
  · rename_i h
    rw [hT h, zero_mul, zero_mul, zero_mul, if_neg (lt_irrefl _), EReal.bot_mul_of_pos hw]
  · rw [mul_assoc X w c, mul_comm w c, ← mul_assoc X c w, mul_assoc (X * c) w, mul_comm w, mul_assoc (X * c)]

/-- A row of the output: from scores `u` in base-2 units with their largest `mx`, as the kernel computes it, and from the scores `s`, as the
    reference states it. `v` is the column of value codes, `w` its scale. -/
theorem row (N : ℕ) (s v : ℕ → EReal) (u : ℕ → EReal) (mx w : EReal) (hw : 0 < w)
    (hu : ∀ n, u n = s n * (L : EReal)) (hmx : mx = (Finset.range N).sup u) :
    Ideal.div ((∑ n ∈ Finset.range N, v n * min (Ideal.exp2 (u n - (mx - ((8 : ℝ) : EReal)))) ((448 : ℝ) : EReal)) * ((1 / 256 : ℝ) : EReal))
        ((∑ n ∈ Finset.range N, Ideal.exp2 (u n - (mx - ((8 : ℝ) : EReal)))) * ((1 / 256 : ℝ) : EReal)) * w
      = Ideal.div ((∑ n ∈ Finset.range N, min (Ideal.exp (s n - (Finset.range N).sup s) * ((256 : ℝ) : EReal)) ((448 : ℝ) : EReal) * v n) * w * ((1 / 256 : ℝ) : EReal))
        (∑ n ∈ Finset.range N, Ideal.exp (s n - (Finset.range N).sup s)) := by
  have hmx' : mx = (Finset.range N).sup s * (L : EReal) := by
    rw [hmx, show u = fun n => s n * (L : EReal) from funext hu]
    exact le_antisymm (sup_scale N s).1 ((sup_scale N s).2 _ fun n hn => Finset.le_sup (f := fun n => s n * (L : EReal)) hn)
  have hex : ∀ n, ∃ ρ : ℝ, 0 ≤ ρ ∧ (n ∈ Finset.range N → Ideal.exp (s n - (Finset.range N).sup s) = (ρ : EReal)) := by
    intro n
    by_cases hn : n ∈ Finset.range N
    · obtain ⟨ρ, h0, h⟩ := exp_real (s n) ((Finset.range N).sup s) (Finset.le_sup (f := s) hn)
      exact ⟨ρ, h0, fun _ => h⟩
    · exact ⟨0, le_rfl, fun h => absurd h hn⟩
  choose ρ h0 hρ using hex
  have hP : ∀ n ∈ Finset.range N, Ideal.exp2 (u n - (mx - ((8 : ℝ) : EReal))) = ((256 * ρ n : ℝ) : EReal) := by
    intro n hn
    rw [hu, hmx', exp2_shift, hρ n hn, ← EReal.coe_mul]
  have hT : ∑ n ∈ Finset.range N, Ideal.exp (s n - (Finset.range N).sup s) = ((∑ n ∈ Finset.range N, ρ n : ℝ) : EReal) :=
    (Finset.sum_congr rfl hρ).trans (coe_sum N ρ)
  have hT' : (∑ n ∈ Finset.range N, Ideal.exp2 (u n - (mx - ((8 : ℝ) : EReal)))) * ((1 / 256 : ℝ) : EReal) = ((∑ n ∈ Finset.range N, ρ n : ℝ) : EReal) := by
    rw [Finset.sum_congr rfl hP, coe_sum N fun n => 256 * ρ n, ← EReal.coe_mul, ← Finset.mul_sum]
    congr 1
    ring
  have hX : ∑ n ∈ Finset.range N, v n * min (Ideal.exp2 (u n - (mx - ((8 : ℝ) : EReal)))) ((448 : ℝ) : EReal)
      = ∑ n ∈ Finset.range N, min (Ideal.exp (s n - (Finset.range N).sup s) * ((256 : ℝ) : EReal)) ((448 : ℝ) : EReal) * v n := by
    refine Finset.sum_congr rfl fun n hn => ?_
    rw [hP n hn, hρ n hn, ← EReal.coe_mul, mul_comm (256 : ℝ), mul_comm (v n)]
  rw [hT', hT, ← hX]
  refine div_scale _ _ _ _ (fun hz => ?_) hw
  have hz' : ∑ n ∈ Finset.range N, ρ n = 0 := EReal.coe_eq_zero.1 hz
  have hall := (Finset.sum_eq_zero_iff_of_nonneg fun n _ => h0 n).1 hz'
  refine Finset.sum_eq_zero fun n hn => ?_
  rw [hP n hn, hall n hn, mul_zero, EReal.coe_zero, min_eq_left (EReal.coe_nonneg.2 (by norm_num)), mul_zero]

end Cert.Softmax

end
-- ==== Proof.Equation.lean ====
/- The two programs' results are the same array: entry by entry the kernel's row of the softmax is the reference's, wherever the value's
   scale is positive. -/
module

public import proofs.«01_k».proof.Proof.Softmax
public import proofs.«01_k».proof.Proof.Ref.Value
public import proofs.«01_k».proof.Proof.Ideal.Spec
public import proofs.«01_k».proof.Pre_positive_v_scale
public import Idealize.ShloMosaic.Lib.ReduceAll

@[expose] public section

set_option maxRecDepth 16384

noncomputable section

namespace Cert.Equation

open Idealize.ShloMosaic Idealize.ShloMosaic.TcCoe Idealize.ShloMosaic.Tactic
open Cert.KernelIdeal.Val (Args at1 at2 kk cst)

/-- The reference's result from the argument arrays, as numbers' functions. -/
def RefOut (A : Args) (r x : ℕ) : EReal :=
  Cert.ReferenceIdeal.Val.Out (at2 A.q) (at2 A.k) (at2 A.v) (fun h r => at2 A.qs (r / 128) h) (fun h n => at2 A.ks (n / 128) (h / 4))
    (fun h d => at1 A.vs (h / 4 * 64 + d)) r x

/-- The reference's score. -/
def RS (A : Args) (h r n : ℕ) : EReal :=
  Cert.ReferenceIdeal.Val.S (at2 A.q) (at2 A.k) (fun h r => at2 A.qs (r / 128) h) (fun h n => at2 A.ks (n / 128) (h / 4)) h r n

/-- The kernel's score is the reference's, in base-2 units. -/
theorem score_eq (A : Args) (h r n : ℕ) : Cert.KernelIdeal.Val.U A (h / 4) h n r = RS A h r n * (Softmax.L : EReal) := by
  have hk : kk = Ideal.ofBits .f32 0x3E000000#32 * (Softmax.L : EReal) := by
    show (((Real.sqrt 64)⁻¹ * (Real.log 2)⁻¹ : ℝ) : EReal) = _
    rw [Softmax.bits_eighth]
    exact Softmax.scale_eq
  have hs : ∑ d ∈ Finset.range 64, at2 A.k n (64 * (h / 4) + d) * at2 A.q r (64 * h + d) = ∑ d ∈ Finset.range 64, at2 A.q r (h * 64 + d) * at2 A.k n (h / 4 * 64 + d) :=
    Finset.sum_congr rfl fun d _ => by rw [mul_comm, Nat.mul_comm 64 h, Nat.mul_comm 64 (h / 4)]
  unfold Cert.KernelIdeal.Val.U RS Cert.ReferenceIdeal.Val.S
  rw [hk, hs]
  generalize (∑ d ∈ Finset.range 64, at2 A.q r (h * 64 + d) * at2 A.k n (h / 4 * 64 + d)) = X
  ac_rfl

/-- The two results agree at a row and a column whose value scale is positive. -/
theorem out_eq (A : Args) (r x : ℕ) (hw : 0 < at1 A.vs (x / 64 / 4 * 64 + x % 64)) : Cert.KernelIdeal.Val.Out A r x = RefOut A r x := by
  have hg : x / 256 = x / 64 / 4 := by omega
  have key := Softmax.row 32768 (fun n => RS A (x / 64) r n) (fun n => at2 A.v (x / 64 / 4 * 64 + x % 64) n)
    (fun n => Cert.KernelIdeal.Val.U A (x / 64 / 4) (x / 64) n r) (Cert.KernelIdeal.Val.Mx A (x / 64 / 4) (x / 64) r) _ hw
    (fun n => score_eq A (x / 64) r n) rfl
  unfold Cert.KernelIdeal.Val.Out
  rw [hg, Nat.mul_comm 64 (x / 64 / 4)]
  unfold Cert.KernelIdeal.Val.Quo Cert.KernelIdeal.Val.Acc Cert.KernelIdeal.Val.Tot Cert.KernelIdeal.Val.scC Cert.KernelIdeal.Val.P
    RefOut Cert.ReferenceIdeal.Val.Out Cert.ReferenceIdeal.Val.E cst
  rw [Softmax.bits_8, Softmax.bits_448, Softmax.bits_256, Softmax.bits_inv256, Nat.mul_comm 64 (x / 64 / 4)]
  exact key

/-- The precondition, read: every value scale is positive. -/
theorem scale_pos [Cert.Pre_positive_v_scale.Facts] (A : Args)
    (h : Cert.Pre_positive_v_scale.fn (F := Ideal) A.q A.qs A.k A.ks A.v A.vs = fun _ => 1#1) (r : ℕ) (hr : r < 512) : 0 < at1 A.vs r := by
  have h' := congrFun h (fun a => a.elim0)
  dsimp only [Cert.Pre_positive_v_scale.fn] at h'
  haveI : Subsingleton Cert.Pre_positive_v_scale.S_.Idx := ⟨fun a b => funext fun i => i.elim0⟩
  have h2 := Host.reduce_andi_all _ _ _ _ _ h' (ix1 ⟨r, hr⟩)
  have h3 : Ideal.cmp .ogt (A.vs (ix1 ⟨r, hr⟩)) (Ideal.ofBits .f32 0x00000000#32) = 1 := h2
  rw [Ideal.cmp_ogt_eq_one] at h3
  unfold at1
  rw [dif_pos hr]
  have hz : Ideal.ofBits .f32 0x00000000#32 = 0 := by simp [Ideal.ofBits, Ideal.ieee]
  rw [hz] at h3
  exact h3

end Cert.Equation

end
-- ==== Proof.lean ====
/- The claims assembled: the frames of the kernel and of the reference, the one rewrite of the kernel's ledger, and the equation of the
   two programs' results. -/
module

public import proofs.«01_k».proof.Defs
public import proofs.«01_k».proof.Proof.Bits.FrameRun
public import proofs.«01_k».proof.Proof.Ideal.FrameRun
public import proofs.«01_k».proof.Proof.Ideal.ValueRun
public import proofs.«01_k».proof.Proof.Ref.Value
public import proofs.«01_k».proof.Proof.Equation
public import proofs.«01_k».proof.Proof.Gen.Pre_positive_v_scale
public import Idealize.ShloMosaic.Adequacy
public import Idealize.ShloMosaic.Init

@[expose] public section

noncomputable section

namespace Cert.Proof

open Idealize.ShloMosaic Idealize.SL.Sem Cert.Kernel

/-- The arrays the two programs leave are one array, where the arguments agree and the value scales are positive. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpos : ∀ r, r < 512 → 0 < Cert.KernelIdeal.Val.at1 (Cert.KernelIdeal.Val.argsOf m c).vs r)
    (h0 : Cert.ReferenceIdeal.Val.aq m' c = (Cert.KernelIdeal.Val.argsOf m c).q) (h1 : Cert.ReferenceIdeal.Val.aqs m' c = (Cert.KernelIdeal.Val.argsOf m c).qs)
    (h2 : Cert.ReferenceIdeal.Val.ak m' c = (Cert.KernelIdeal.Val.argsOf m c).k) (h3 : Cert.ReferenceIdeal.Val.aks m' c = (Cert.KernelIdeal.Val.argsOf m c).ks)
    (h4 : Cert.ReferenceIdeal.Val.av m' c = (Cert.KernelIdeal.Val.argsOf m c).v) (h5 : Cert.ReferenceIdeal.Val.avs m' c = (Cert.KernelIdeal.Val.argsOf m c).vs) :
    Cert.ReferenceIdeal.Val.outArr m' c = Cert.KernelIdeal.Val.outArr m c := by
  funext y
  have hy : (y 1).val < 2048 := (y 1).isLt
  unfold Cert.ReferenceIdeal.Val.outArr
  rw [h0, h1, h2, h3, h4, h5]
  exact (Cert.Equation.out_eq (Cert.KernelIdeal.Val.argsOf m c) (y 0).val (y 1).val (hpos _ (by omega))).symm

/-- From memories agreeing on the arguments, the value scales positive, both programs run and end with one result. -/
theorem algebraic [Cert.Pre_positive_v_scale.Facts] : Cert.algebraic_KernelIdeal_ReferenceIdeal_pre_positive_v_scale := by
  intro m g m' g' hpre hargs
  refine ⟨fun c => Cert.KernelIdeal.Val.outArr m c, Cert.KernelIdeal.Val.run_value m g, ?_⟩
  refine (θ_run _ _ _).mono (fun r h c => ⟨(h c).1.trans ?_, (h c).2⟩) (Cert.ReferenceIdeal.Val.run_value m' g')
  obtain ⟨h0, h1, h2, h3, h4, h5⟩ := hargs c
  exact result_eq m m' c (Cert.Equation.scale_pos (Cert.KernelIdeal.Val.argsOf m c) (hpre c)) h0 h1 h2 h3 h4 h5

/-- Everything the certificate claims. -/
theorem claim : Cert.Claim := ⟨Cert.Kernel.Gen.facts, Cert.KernelIdeal.Gen.facts, Cert.ReferenceIdeal.Gen.facts, Cert.Pre_positive_v_scale.Gen.facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  IdealRules.named_const.statement Cert.KernelIdeal.κ "score_scale" .f32 0x3E38AA3B#32 (((Real.sqrt 64)⁻¹ * (Real.log 2)⁻¹ : ℝ) : EReal) rfl,
  algebraic⟩

end Cert.Proof

end
